-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x32x32x384 : Shape := ⟨4, ![16, 32, 32, 384]⟩
abbrev S128x384x3x3 : Shape := ⟨4, ![128, 384, 3, 3]⟩
abbrev S128 : Shape := ⟨1, ![128]⟩
abbrev S1x128x1x1 : Shape := ⟨4, ![1, 128, 1, 1]⟩
abbrev S1 : Shape := ⟨1, ![1]⟩
abbrev S3x3x384x128 : Shape := ⟨4, ![3, 3, 384, 128]⟩
abbrev S_ : Shape := ⟨0, ![]⟩
abbrev S9x384x128 : Shape := ⟨3, ![9, 384, 128]⟩
abbrev S1x128 : Shape := ⟨2, ![1, 128]⟩
abbrev S1x1 : Shape := ⟨2, ![1, 1]⟩
abbrev S16x1x1024 : Shape := ⟨3, ![16, 1, 1024]⟩
abbrev S2x32x32x384 : Shape := ⟨4, ![2, 32, 32, 384]⟩
abbrev S2x1x1024 : Shape := ⟨3, ![2, 1, 1024]⟩
abbrev S1x32x32x384 : Shape := ⟨4, ![1, 32, 32, 384]⟩
abbrev S32x32x384 : Shape := ⟨3, ![32, 32, 384]⟩
abbrev S1024x384 : Shape := ⟨2, ![1024, 384]⟩
abbrev S1024x1 : Shape := ⟨2, ![1024, 1]⟩
abbrev S1x384 : Shape := ⟨2, ![1, 384]⟩
abbrev S1023x384 : Shape := ⟨2, ![1023, 384]⟩
abbrev S32x384 : Shape := ⟨2, ![32, 384]⟩
abbrev S1088x384 : Shape := ⟨2, ![1088, 384]⟩
abbrev S1024x128 : Shape := ⟨2, ![1024, 128]⟩
abbrev S1x384x128 : Shape := ⟨3, ![1, 384, 128]⟩
abbrev S384x128 : Shape := ⟨2, ![384, 128]⟩
abbrev S1x1024 : Shape := ⟨2, ![1, 1024]⟩
abbrev S1x1x1024 : Shape := ⟨3, ![1, 1, 1024]⟩
abbrev S16x32x32x1 : Shape := ⟨4, ![16, 32, 32, 1]⟩

abbrev nBuf : Space → Nat
  | .hbm => 16
  | .vmem => 8
  | .smem => 0
  | _ => 0

abbrev bufTy : (tb : Table) → Fin (tcTables nBuf tb) → BufTy
  | .hbm, ⟨0, _⟩ => ⟨S16x32x32x384, .f32⟩
  | .hbm, ⟨1, _⟩ => ⟨S128x384x3x3, .f32⟩
  | .hbm, ⟨2, _⟩ => ⟨S128, .f32⟩
  | .hbm, ⟨3, _⟩ => ⟨S1x128x1x1, .f32⟩
  | .hbm, ⟨4, _⟩ => ⟨S1, .f32⟩
  | .hbm, ⟨5, _⟩ => ⟨S3x3x384x128, .f32⟩
  | .hbm, ⟨6, _⟩ => ⟨S_, .f32⟩
  | .hbm, ⟨7, _⟩ => ⟨S3x3x384x128, .f32⟩
  | .hbm, ⟨8, _⟩ => ⟨S3x3x384x128, .f32⟩
  | .hbm, ⟨9, _⟩ => ⟨S9x384x128, .f32⟩
  | .hbm, ⟨10, _⟩ => ⟨S9x384x128, .fp8e4m3⟩
  | .hbm, ⟨11, _⟩ => ⟨S1x128, .f32⟩
  | .hbm, ⟨12, _⟩ => ⟨S1x128, .f32⟩
  | .hbm, ⟨13, _⟩ => ⟨S1x1, .f32⟩
  | .hbm, ⟨14, _⟩ => ⟨S16x1x1024, .f32⟩
  | .hbm, ⟨15, _⟩ => ⟨S16x32x32x1, .f32⟩
  | .local _ .vmem, ⟨0, _⟩ => ⟨S2x32x32x384, .f32⟩
  | .local _ .vmem, ⟨1, _⟩ => ⟨S2x32x32x384, .f32⟩
  | .local _ .vmem, ⟨2, _⟩ => ⟨S9x384x128, .fp8e4m3⟩
  | .local _ .vmem, ⟨3, _⟩ => ⟨S1x128, .f32⟩
  | .local _ .vmem, ⟨4, _⟩ => ⟨S1x128, .f32⟩
  | .local _ .vmem, ⟨5, _⟩ => ⟨S1x1, .f32⟩
  | .local _ .vmem, ⟨6, _⟩ => ⟨S2x1x1024, .f32⟩
  | .local _ .vmem, ⟨7, _⟩ => ⟨S2x1x1024, .f32⟩
  | _, _ => ⟨S16x32x32x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x32x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x384x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x32x32x384 : Shape := ⟨4, ![16, 32, 32, 384]⟩
abbrev S128x384x3x3 : Shape := ⟨4, ![128, 384, 3, 3]⟩
abbrev S128 : Shape := ⟨1, ![128]⟩
abbrev S1x128x1x1 : Shape := ⟨4, ![1, 128, 1, 1]⟩
abbrev S1 : Shape := ⟨1, ![1]⟩
abbrev S16x384x32x32 : Shape := ⟨4, ![16, 384, 32, 32]⟩
abbrev S_ : Shape := ⟨0, ![]⟩
abbrev S16x384x34x34 : Shape := ⟨4, ![16, 384, 34, 34]⟩
abbrev S16x128x32x32 : Shape := ⟨4, ![16, 128, 32, 32]⟩
abbrev S128x384x1x1 : Shape := ⟨4, ![128, 384, 1, 1]⟩
abbrev S128x384 : Shape := ⟨2, ![128, 384]⟩
abbrev S128x16x32x32 : Shape := ⟨4, ![128, 16, 32, 32]⟩
abbrev S1x128 : Shape := ⟨2, ![1, 128]⟩
abbrev S1x16x32x32 : Shape := ⟨4, ![1, 16, 32, 32]⟩
abbrev S16x1x32x32 : Shape := ⟨4, ![16, 1, 32, 32]⟩
abbrev S1x1x1x1 : Shape := ⟨4, ![1, 1, 1, 1]⟩
abbrev S16x32x32x1 : Shape := ⟨4, ![16, 32, 32, 1]⟩

abbrev nBuf : Space → Nat
  | .hbm => 86
  | .vmem => 0
  | .smem => 0
  | _ => 0

abbrev bufTy : (tb : Table) → Fin (tcTables nBuf tb) → BufTy
  | .hbm, ⟨0, _⟩ => ⟨S16x32x32x384, .f32⟩
  | .hbm, ⟨1, _⟩ => ⟨S128x384x3x3, .f32⟩
  | .hbm, ⟨2, _⟩ => ⟨S128, .f32⟩
  | .hbm, ⟨3, _⟩ => ⟨S1x128x1x1, .f32⟩
  | .hbm, ⟨4, _⟩ => ⟨S1, .f32⟩
  | .hbm, ⟨5, _⟩ => ⟨S16x384x32x32, .f32⟩
  | .hbm, ⟨6, _⟩ => ⟨S_, .i32⟩
  | .hbm, ⟨7, _⟩ => ⟨S_, .f32⟩
  | .hbm, ⟨8, _⟩ => ⟨S16x384x34x34, .f32⟩
  | .hbm, ⟨9, _⟩ => ⟨S_, .f32⟩
  | .hbm, ⟨10, _⟩ => ⟨S16x128x32x32, .f32⟩
  | .hbm, ⟨11, _⟩ => ⟨S16x384x32x32, .f32⟩
  | .hbm, ⟨12, _⟩ => ⟨S128x384x1x1, .f32⟩
  | .hbm, ⟨13, _⟩ => ⟨S128x384, .f32⟩
  | .hbm, ⟨14, _⟩ => ⟨S128x16x32x32, .f32⟩
  | .hbm, ⟨15, _⟩ => ⟨S16x128x32x32, .f32⟩
  | .hbm, ⟨16, _⟩ => ⟨S16x128x32x32, .f32⟩
  | .hbm, ⟨17, _⟩ => ⟨S16x384x32x32, .f32⟩
  | .hbm, ⟨18, _⟩ => ⟨S128x384x1x1, .f32⟩
  | .hbm, ⟨19, _⟩ => ⟨S128x384, .f32⟩
  | .hbm, ⟨20, _⟩ => ⟨S128x16x32x32, .f32⟩
  | .hbm, ⟨21, _⟩ => ⟨S16x128x32x32, .f32⟩
  | .hbm, ⟨22, _⟩ => ⟨S16x128x32x32, .f32⟩
  | .hbm, ⟨23, _⟩ => ⟨S16x384x32x32, .f32⟩
  | .hbm, ⟨24, _⟩ => ⟨S128x384x1x1, .f32⟩
  | .hbm, ⟨25, _⟩ => ⟨S128x384, .f32⟩
  | .hbm, ⟨26, _⟩ => ⟨S128x16x32x32, .f32⟩
  | .hbm, ⟨27, _⟩ => ⟨S16x128x32x32, .f32⟩
  | .hbm, ⟨28, _⟩ => ⟨S16x128x32x32, .f32⟩
  | .hbm, ⟨29, _⟩ => ⟨S16x384x32x32, .f32⟩
  | .hbm, ⟨30, _⟩ => ⟨S128x384x1x1, .f32⟩
  | .hbm, ⟨31, _⟩ => ⟨S128x384, .f32⟩
  | .hbm, ⟨32, _⟩ => ⟨S128x16x32x32, .f32⟩
  | .hbm, ⟨33, _⟩ => ⟨S16x128x32x32, .f32⟩
  | .hbm, ⟨34, _⟩ => ⟨S16x128x32x32, .f32⟩
  | .hbm, ⟨35, _⟩ => ⟨S16x384x32x32, .f32⟩
  | .hbm, ⟨36, _⟩ => ⟨S128x384x1x1, .f32⟩
  | .hbm, ⟨37, _⟩ => ⟨S128x384, .f32⟩
  | .hbm, ⟨38, _⟩ => ⟨S128x16x32x32, .f32⟩
  | .hbm, ⟨39, _⟩ => ⟨S16x128x32x32, .f32⟩
  | .hbm, ⟨40, _⟩ => ⟨S16x128x32x32, .f32⟩
  | .hbm, ⟨41, _⟩ => ⟨S16x384x32x32, .f32⟩
  | .hbm, ⟨42, _⟩ => ⟨S128x384x1x1, .f32⟩
  | .hbm, ⟨43, _⟩ => ⟨S128x384, .f32⟩
  | .hbm, ⟨44, _⟩ => ⟨S128x16x32x32, .f32⟩
  | .hbm, ⟨45, _⟩ => ⟨S16x128x32x32, .f32⟩
  | .hbm, ⟨46, _⟩ => ⟨S16x128x32x32, .f32⟩
  | .hbm, ⟨47, _⟩ => ⟨S16x384x32x32, .f32⟩
  | .hbm, ⟨48, _⟩ => ⟨S128x384x1x1, .f32⟩
  | .hbm, ⟨49, _⟩ => ⟨S128x384, .f32⟩
  | .hbm, ⟨50, _⟩ => ⟨S128x16x32x32, .f32⟩
  | .hbm, ⟨51, _⟩ => ⟨S16x128x32x32, .f32⟩
  | .hbm, ⟨52, _⟩ => ⟨S16x128x32x32, .f32⟩
  | .hbm, ⟨53, _⟩ => ⟨S16x384x32x32, .f32⟩
  | .hbm, ⟨54, _⟩ => ⟨S128x384x1x1, .f32⟩
  | .hbm, ⟨55, _⟩ => ⟨S128x384, .f32⟩
  | .hbm, ⟨56, _⟩ => ⟨S128x16x32x32, .f32⟩
  | .hbm, ⟨57, _⟩ => ⟨S16x128x32x32, .f32⟩
  | .hbm, ⟨58, _⟩ => ⟨S16x128x32x32, .f32⟩
  | .hbm, ⟨59, _⟩ => ⟨S16x384x32x32, .f32⟩
  | .hbm, ⟨60, _⟩ => ⟨S128x384x1x1, .f32⟩
  | .hbm, ⟨61, _⟩ => ⟨S128x384, .f32⟩
  | .hbm, ⟨62, _⟩ => ⟨S128x16x32x32, .f32⟩
  | .hbm, ⟨63, _⟩ => ⟨S16x128x32x32, .f32⟩
  | .hbm, ⟨64, _⟩ => ⟨S16x128x32x32, .f32⟩
  | .hbm, ⟨65, _⟩ => ⟨S1x128x1x1, .f32⟩
  | .hbm, ⟨66, _⟩ => ⟨S16x128x32x32, .f32⟩
  | .hbm, ⟨67, _⟩ => ⟨S16x128x32x32, .f32⟩
  | .hbm, ⟨68, _⟩ => ⟨S_, .f32⟩
  | .hbm, ⟨69, _⟩ => ⟨S16x128x32x32, .f32⟩
  | .hbm, ⟨70, _⟩ => ⟨S16x128x32x32, .f32⟩
  | .hbm, ⟨71, _⟩ => ⟨S1x128, .f32⟩
  | .hbm, ⟨72, _⟩ => ⟨S1x16x32x32, .f32⟩
  | .hbm, ⟨73, _⟩ => ⟨S16x1x32x32, .f32⟩
  | .hbm, ⟨74, _⟩ => ⟨S1x1x1x1, .f32⟩
  | .hbm, ⟨75, _⟩ => ⟨S16x1x32x32, .f32⟩
  | .hbm, ⟨76, _⟩ => ⟨S16x1x32x32, .f32⟩
  | .hbm, ⟨77, _⟩ => ⟨S16x1x32x32, .f32⟩
  | .hbm, ⟨78, _⟩ => ⟨S16x1x32x32, .f32⟩
  | .hbm, ⟨79, _⟩ => ⟨S_, .f32⟩
  | .hbm, ⟨80, _⟩ => ⟨S16x1x32x32, .f32⟩
  | .hbm, ⟨81, _⟩ => ⟨S16x1x32x32, .f32⟩
  | .hbm, ⟨82, _⟩ => ⟨S_, .f32⟩
  | .hbm, ⟨83, _⟩ => ⟨S16x1x32x32, .f32⟩
  | .hbm, ⟨84, _⟩ => ⟨S16x1x32x32, .f32⟩
  | .hbm, ⟨85, _⟩ => ⟨S16x32x32x1, .f32⟩
  | _, _ => ⟨S16x32x32x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_call1_cst : Ref sig .tc := ⟨.hbm, 68, rfl⟩
abbrev main_call1_v0 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_0 : Ref sig .tc := ⟨.hbm, 79, rfl⟩
abbrev main_v69 : Ref sig .tc := ⟨.hbm, 80, rfl⟩
abbrev main_v70 : Ref sig .tc := ⟨.hbm, 81, rfl⟩
abbrev main_cst_1 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Proof.Formula.lean ====
/-
  The formula both programs are shown to compute, on the extended reals: a three-by-three convolution of one image with
  zero padding, a bias, the positive part, a one-by-one convolution with its bias, and the logistic function.

  An image is a function of row, column and channel; the weights of the three-by-three convolution are a function of
  output channel, input channel and the two kernel coordinates. Two ways of summing appear. `conv` sums weight times
  pixel, tap by tap, as the reference does. `scaledConv` sums pixel times `256 ·` weight and multiplies the total by
  `1 / 256`, as the kernel does. `scaledConv_eq` says that the two are equal for all extended-real inputs.
-/
module

public import Idealize.ShloMosaic.PureOps.Ideal.Laws

@[expose] public section

noncomputable section

open scoped BigOperators
open Idealize.ShloMosaic

namespace Cert.Saliency

/-- One image: row, column, channel. -/
abbrev Image := Fin 32 → Fin 32 → Fin 384 → EReal

/-- The three-by-three weights: output channel, input channel, kernel row, kernel column. -/
abbrev Weights := Fin 128 → Fin 384 → Fin 3 → Fin 3 → EReal

/-- The image with one ring of zeros around it, at row `r` and column `q` of the padded picture. -/
def padded (x : Image) (r q : ℕ) (c : Fin 384) : EReal :=
  if h : (1 ≤ r ∧ r ≤ 32) ∧ 1 ≤ q ∧ q ≤ 32 then x ⟨r - 1, by omega⟩ ⟨q - 1, by omega⟩ c else 0

/-- Inside the ring the padded image is the image. -/
theorem padded_of_inside (x : Image) {r q : ℕ} (c : Fin 384) (i j : Fin 32) (hr : r = i.val + 1) (hq : q = j.val + 1) :
    padded x r q c = x i j c := by
  subst hr hq
  have := i.isLt
  have := j.isLt
  unfold padded
  rw [dif_pos ⟨⟨by omega, by omega⟩, by omega, by omega⟩]
  rfl

/-- On the ring, and beyond it, the padded image is zero. -/
theorem padded_of_outside (x : Image) {r q : ℕ} (c : Fin 384) (h : r = 0 ∨ 33 ≤ r ∨ q = 0 ∨ 33 ≤ q) :
    padded x r q c = 0 := by
  unfold padded
  exact dif_neg (by omega)

/-- Nine terms added from the left onto zero, kernel rows outermost. -/
def nine (t : Fin 3 → Fin 3 → EReal) : EReal :=
  0 + t 0 0 + t 0 1 + t 0 2 + t 1 0 + t 1 1 + t 1 2 + t 2 0 + t 2 1 + t 2 2

/-- The convolution at pixel `(y, x)` for output channel `o`: weight times pixel, summed over the channels and then over
    the nine taps. -/
def conv (img : Image) (w : Weights) (y x : Fin 32) (o : Fin 128) : EReal :=
  nine fun ky kx => ∑ c : Fin 384, w o c ky kx * padded img (y.val + ky.val) (x.val + kx.val) c

/-- The same sum with every weight multiplied by 256, and the total by 1/256. -/
def scaledConv (img : Image) (w : Weights) (y x : Fin 32) (o : Fin 128) : EReal :=
  (nine fun ky kx => ∑ c : Fin 384, padded img (y.val + ky.val) (x.val + kx.val) c * (w o c ky kx * ((256 : ℝ) : EReal)))
    * (((1 : ℝ) / 256 : ℝ) : EReal)

/-- The saliency of a pixel, from the convolution's value `a o` at each output channel: bias, positive part, the one-by-one
    convolution with its own bias, and the logistic function. -/
def head (a : Fin 128 → EReal) (b1 w2 : Fin 128 → EReal) (b2 : EReal) : EReal :=
  Ideal.logistic ((∑ o : Fin 128, w2 o * max (a o + b1 o) 0) + b2)

/-- The saliency of pixel `(y, x)` of image `b` of a batch. -/
def saliency (images : Fin 16 → Image) (w : Weights) (b1 w2 : Fin 128 → EReal) (b2 : EReal) (b : Fin 16) (y x : Fin 32) : EReal :=
  head (conv (images b) w y x) b1 w2 b2

/-- Multiplying by a real number that is not negative passes through a sum of two extended reals. -/
theorem add_mul_real (a b : EReal) {r : ℝ} (hr : 0 ≤ r) : (a + b) * (r : EReal) = a * r + b * r :=
  EReal.right_distrib_of_nonneg_of_ne_top (EReal.coe_nonneg.mpr hr) (EReal.coe_ne_top r) a b

/-- Multiplying by a real number that is not negative passes through a finite sum of extended reals. -/
theorem sum_mul_real {ι : Type} (s : Finset ι) (f : ι → EReal) {r : ℝ} (hr : 0 ≤ r) :
    (∑ i ∈ s, f i) * (r : EReal) = ∑ i ∈ s, f i * r := by
  classical
  induction s using Finset.induction_on with
  | empty => simp
  | insert a s ha ih => rw [Finset.sum_insert ha, Finset.sum_insert ha, add_mul_real _ _ hr, ih]

/-- Multiplying by a real number that is not negative passes through the nine terms. -/
theorem nine_mul_real (t : Fin 3 → Fin 3 → EReal) {r : ℝ} (hr : 0 ≤ r) :
    nine t * (r : EReal) = nine fun ky kx => t ky kx * r := by
  unfold nine
  simp only [add_mul_real _ _ hr, zero_mul]

/-- Scaling the weights by 256 and the total by 1/256 changes nothing. -/
theorem scaledConv_eq (img : Image) (w : Weights) (y x : Fin 32) (o : Fin 128) :
    scaledConv img w y x o = conv img w y x o := by
  have h : (0 : ℝ) ≤ 1 / 256 := by norm_num
  have e : ((256 : ℝ) : EReal) * (((1 : ℝ) / 256 : ℝ) : EReal) = 1 := by
    rw [← EReal.coe_mul]; norm_num
  unfold scaledConv conv
  rw [nine_mul_real _ h]
  congr 1
  funext ky kx
  rw [sum_mul_real _ _ h]
  refine Finset.sum_congr rfl fun c _ => ?_
  rw [mul_assoc, mul_assoc, e, mul_one, mul_comm]

end Cert.Saliency

end
-- ==== Proof.Rows.lean ====
/-
  The three row tables the kernel builds from one image, read at an index.

  The kernel lays the image out as 1024 rows of 384 channels, row `32 y + x` for pixel `(y, x)`, and makes three copies:
  one moved down a row with the first column of the picture cleared, one as it is, one moved up a row with the last
  column cleared. Each gets 32 rows of zeros above and below. Row `r` of table `k` is then the zero-padded picture at row
  `r / 32` and column `r % 32 + k`: the three theorems `left_apply`, `middle_apply` and `right_apply`.
-/
module

public import proofs.«01_k».proof.Proof.Formula
public import proofs.«01_k».proof.Proof.Gen.KernelIdeal.Skeleton
public import Idealize.ShloMosaic.Lib.Pipeline.Value
public import Idealize.ShloMosaic.Lib.ValueIdx
public import Idealize.ShloMosaic.Lib.ValueLayout

@[expose] public section

noncomputable section

open scoped BigOperators
open Idealize.ShloMosaic Idealize.ShloMosaic.ValueIdx
open Cert.KernelIdeal Cert.KernelIdeal.Gen

namespace Cert.Saliency

/-- One image as the kernel loads it, as a function of row, column and channel. -/
def pixels (v : S1x32x32x384.Idx → EReal) : Image := fun y x c => v (ix4 0 y x c)

/-- The zero of the eight-bit format is zero. -/
theorem ofBits_zero_fp8 : Ideal.ofBits .fp8e4m3 0x00#8 = 0 := by simp [Ideal.ofBits, Ideal.ieee, Ideal.e4m3fn]

/-- The image as 1024 rows: row `p` is pixel `(p / 32, p % 32)`. -/
theorem rows_apply (v : Vec Ideal S1x32x32x384 .f32) (p : Fin 1024) (c : Fin 384) :
    k0_pay2 (F := Ideal) v (ix2 p c)
      = pixels v ⟨p.val / 32, by have := p.isLt; omega⟩ ⟨p.val % 32, Nat.mod_lt _ (by omega)⟩ c := by
  show shapeCast S1024x384 (shapeCast S32x32x384 v shapeCasts_S1x32x32x384_S32x32x384) shapeCasts_S32x32x384_S1024x384 (ix2 p c) = _
  refine (shapeCast_apply (shapeCast S32x32x384 v shapeCasts_S1x32x32x384_S32x32x384) shapeCasts_S32x32x384_S1024x384 (ix2 p c)
    (ix3 (⟨p.val / 32, by have := p.isLt; omega⟩ : Fin 32) (⟨p.val % 32, Nat.mod_lt _ (by omega)⟩ : Fin 32) c) ?_).trans ?_
  · rw [Shape.rowMajor_val_three, Shape.rowMajor_val_two]
    show (p.val / 32 * 32 + p.val % 32) * 384 + c.val = p.val * 384 + c.val
    rw [Nat.div_add_mod' p.val 32]
  · exact shapeCast_1abc_abc_apply v _ _ _ _

/-- The column counter of row `p` is `p % 32`. -/
theorem column_apply (p : Fin 1024) : k0_pay3 (ix2 p (0 : Fin 1)) = BitVec.ofNat 32 (p.val % 32) := by
  have key : ∀ l < 1024,
      Scalar.select (IntOp.andi (IntOp.xori (IntOp.cmpi .slt (IntOp.remsi .vector (BitVec.ofNat 32 l) 32#32) 0#32) (IntOp.cmpi .slt 32#32 0#32))
          (IntOp.cmpi .ne (IntOp.remsi .vector (BitVec.ofNat 32 l) 32#32) 0#32))
        (IntOp.addi (IntOp.remsi .vector (BitVec.ofNat 32 l) 32#32) 32#32) (IntOp.remsi .vector (BitVec.ofNat 32 l) 32#32)
      = BitVec.ofNat 32 (l % 32) := by decide +kernel
  have hi : iota .tc S1024x1 32 [0] iota_S1024x1_d0_w32 (ix2 p (0 : Fin 1)) = BitVec.ofNat 32 p.val :=
    iota_single_apply _ _ _ _ _ _
  refine Eq.trans ?_ (key p.val p.isLt)
  rw [← hi]
  rfl

/-- A row cleared where its column counter equals `k`: zero there, the row elsewhere. -/
theorem cleared_apply (k : ℕ) (hk : k < 32) (x : FVec Ideal S1024x384 .fp8e4m3) (p : Fin 1024) (c : Fin 384) :
    select (broadcastTo S1024x384 (shapeCast S1024x1 (cmpi .eq k0_pay3 (broadcast S1024x1 (BitVec.ofNat 32 k))) shapeCasts_S1024x1_S1024x1)
        broadcasts_S1024x1_S1024x384)
      (broadcast S1024x384 (Scalar.ofBits (F := Ideal) .fp8e4m3 0x00#8)) x (ix2 p c)
      = if p.val % 32 = k then 0 else x (ix2 p c) := by
  have hb : broadcastTo S1024x384 (shapeCast S1024x1 (cmpi .eq k0_pay3 (broadcast S1024x1 (BitVec.ofNat 32 k))) shapeCasts_S1024x1_S1024x1)
      broadcasts_S1024x1_S1024x384 (ix2 p c) = IntOp.cmpi .eq (BitVec.ofNat 32 (p.val % 32)) (BitVec.ofNat 32 k) := by
    refine (broadcastTo_apply _ _ (ix2 p c) (ix2 p (0 : Fin 1)) ?_).trans ?_
    · intro a
      match a with
      | ⟨0, _⟩ => rfl
      | ⟨1, _⟩ => rfl
    · rw [shapeCast_self, ← column_apply p]
      rfl
  have hs : IntOp.cmpi .eq (BitVec.ofNat 32 (p.val % 32)) (BitVec.ofNat 32 k) = if p.val % 32 = k then 1#1 else 0#1 := by
    have key : ∀ a < 32, ∀ b < 32, IntOp.cmpi .eq (BitVec.ofNat 32 a) (BitVec.ofNat 32 b) = if a = b then 1#1 else 0#1 := by
      decide +kernel
    exact key _ (Nat.mod_lt _ (by omega)) _ hk
  rw [select_apply, hb, hs]
  split
  · exact (select_one _ _).trans ofBits_zero_fp8
  · exact select_zero _ _

/-- The 32 rows of zeros. -/
theorem zeros_apply (i : S32x384.Idx) : k0_pay4 (F := Ideal) i = 0 := ofBits_zero_fp8

/-- 1024 rows with 32 rows of zeros above and below: zero in the first 32 rows and the last 32, the rows between. -/
theorem framed_apply (x : FVec Ideal S1024x384 .fp8e4m3) (r : Fin 1088) (c : Fin 384) :
    concatenate S1088x384 0 [⟨S32x384, k0_pay4 (F := Ideal)⟩, ⟨S1024x384, x⟩, ⟨S32x384, k0_pay4 (F := Ideal)⟩]
        concatenates_S32x384_S1024x384_S32x384_S1088x384_d0 (ix2 r c)
      = if h : 32 ≤ r.val ∧ r.val < 1056 then x (ix2 ⟨r.val - 32, by omega⟩ c) else 0 := by
  have hr := r.isLt
  by_cases h0 : r.val < 32
  · rw [dif_neg (by omega)]
    refine (concatenate_apply_piece 0 _ _ (ix2 r c) 0 (by simp) S32x384 (k0_pay4 (F := Ideal)) rfl rfl 0 rfl
      (ix2 ⟨r.val, h0⟩ c) ?_ ?_).trans (zeros_apply _)
    · intro b hb
      match b with
      | ⟨0, _⟩ => exact absurd rfl hb
      | ⟨1, _⟩ => rfl
    · exact Nat.zero_add _
  · by_cases h1 : r.val < 1056
    · rw [dif_pos ⟨by omega, h1⟩]
      refine concatenate_apply_piece 0 _ _ (ix2 r c) 1 (by simp) S1024x384 x rfl rfl 32 rfl
        (ix2 ⟨r.val - 32, by omega⟩ c) ?_ ?_
      · intro b hb
        match b with
        | ⟨0, _⟩ => exact absurd rfl hb
        | ⟨1, _⟩ => rfl
      · show 32 + (r.val - 32) = r.val
        omega
    · rw [dif_neg (by omega)]
      refine (concatenate_apply_piece 0 _ _ (ix2 r c) 2 (by simp) S32x384 (k0_pay4 (F := Ideal)) rfl rfl 1056 rfl
        (ix2 ⟨r.val - 1056, by omega⟩ c) ?_ ?_).trans (zeros_apply _)
      · intro b hb
        match b with
        | ⟨0, _⟩ => exact absurd rfl hb
        | ⟨1, _⟩ => rfl
      · show 1056 + (r.val - 1056) = r.val
        omega

/-- The rows moved down by one, away from row 0. -/
theorem down_apply (x : FVec Ideal S1024x384 .fp8e4m3) (p : Fin 1024) (c : Fin 384) (hp : 1 ≤ p.val) :
    concatenate S1024x384 0 [⟨S1x384, extractStridedSlice S1x384 ![1023, 0] x slices_S1024x384_o1023_0_S1x384⟩,
        ⟨S1023x384, extractStridedSlice S1023x384 ![0, 0] x slices_S1024x384_o0_0_S1023x384⟩]
        concatenates_S1x384_S1023x384_S1024x384_d0 (ix2 p c) = x (ix2 ⟨p.val - 1, by have := p.isLt; omega⟩ c) := by
  have hl := p.isLt
  refine (concatenate_apply_piece 0 _ _ (ix2 p c) 1 (by simp) S1023x384 _ rfl rfl 1 rfl
    (ix2 ⟨p.val - 1, by omega⟩ c) ?_ ?_).trans ?_
  · intro b hb
    match b with
    | ⟨0, _⟩ => exact absurd rfl hb
    | ⟨1, _⟩ => rfl
  · show 1 + (p.val - 1) = p.val
    omega
  · exact slice2_axis0_apply 0 x _ _ _ _ (Nat.zero_add _).symm

/-- The rows moved up by one, away from row 1023. -/
theorem up_apply (x : FVec Ideal S1024x384 .fp8e4m3) (p : Fin 1024) (c : Fin 384) (hp : p.val < 1023) :
    concatenate S1024x384 0 [⟨S1023x384, extractStridedSlice S1023x384 ![1, 0] x slices_S1024x384_o1_0_S1023x384⟩,
        ⟨S1x384, extractStridedSlice S1x384 ![0, 0] x slices_S1024x384_o0_0_S1x384⟩]
        concatenates_S1023x384_S1x384_S1024x384_d0 (ix2 p c) = x (ix2 ⟨p.val + 1, by omega⟩ c) := by
  refine (concatenate_apply_piece 0 _ _ (ix2 p c) 0 (by simp) S1023x384 _ rfl rfl 0 rfl
    (ix2 ⟨p.val, hp⟩ c) ?_ ?_).trans ?_
  · intro b hb
    match b with
    | ⟨0, _⟩ => exact absurd rfl hb
    | ⟨1, _⟩ => rfl
  · exact Nat.zero_add _
  · exact slice2_axis0_apply 1 x _ _ _ _ (Nat.add_comm _ _)

/-- Row `r` of the middle table is the padded picture at row `r / 32`, column `r % 32 + 1`. -/
theorem middle_apply (v : Vec Ideal S1x32x32x384 .f32) (r : Fin 1088) (c : Fin 384) :
    k0_pay6 (F := Ideal) v (ix2 r c) = padded (pixels v) (r.val / 32) (r.val % 32 + 1) c := by
  have hr := r.isLt
  refine (framed_apply (k0_pay2 v) r c).trans ?_
  split
  · rename_i h
    rw [rows_apply]
    refine (padded_of_inside _ _ _ _ ?_ ?_).symm
    · show r.val / 32 = (r.val - 32) / 32 + 1
      omega
    · show r.val % 32 + 1 = (r.val - 32) % 32 + 1
      omega
  · exact (padded_of_outside _ _ (by omega)).symm

/-- Row `r` of the left table is the padded picture at row `r / 32`, column `r % 32`. -/
theorem left_apply (v : Vec Ideal S1x32x32x384 .f32) (r : Fin 1088) (c : Fin 384) :
    k0_pay5 (F := Ideal) v (ix2 r c) = padded (pixels v) (r.val / 32) (r.val % 32) c := by
  have hr := r.isLt
  refine (framed_apply _ r c).trans ?_
  split
  · rename_i h
    refine (cleared_apply 0 (by omega) _ _ c).trans ?_
    split
    · rename_i h'
      have h'' : (r.val - 32) % 32 = 0 := h'
      exact (padded_of_outside _ _ (by omega)).symm
    · rename_i h'
      have h'' : ¬ (r.val - 32) % 32 = 0 := h'
      rw [down_apply _ _ _ (show 1 ≤ r.val - 32 by omega), rows_apply]
      refine (padded_of_inside _ _ _ _ ?_ ?_).symm
      · show r.val / 32 = (r.val - 32 - 1) / 32 + 1
        omega
      · show r.val % 32 = (r.val - 32 - 1) % 32 + 1
        omega
  · exact (padded_of_outside _ _ (by omega)).symm

/-- Row `r` of the right table is the padded picture at row `r / 32`, column `r % 32 + 2`. -/
theorem right_apply (v : Vec Ideal S1x32x32x384 .f32) (r : Fin 1088) (c : Fin 384) :
    k0_pay7 (F := Ideal) v (ix2 r c) = padded (pixels v) (r.val / 32) (r.val % 32 + 2) c := by
  have hr := r.isLt
  refine (framed_apply _ r c).trans ?_
  split
  · rename_i h
    refine (cleared_apply 31 (by omega) _ _ c).trans ?_
    split
    · rename_i h'
      have h'' : (r.val - 32) % 32 = 31 := h'
      exact (padded_of_outside _ _ (by omega)).symm
    · rename_i h'
      have h'' : ¬ (r.val - 32) % 32 = 31 := h'
      rw [up_apply _ _ _ (show r.val - 32 < 1023 by omega), rows_apply]
      refine (padded_of_inside _ _ _ _ ?_ ?_).symm
      · show r.val / 32 = (r.val - 32 + 1) / 32 + 1
        omega
      · show r.val % 32 + 2 = (r.val - 32 + 1) % 32 + 1
        omega
  · exact (padded_of_outside _ _ (by omega)).symm

end Cert.Saliency

end
-- ==== Proof.Pixel.lean ====
/-
  What the kernel computes from one image and the weight table: the value stored for one pixel.

  `tap_apply` reads one of the nine matrix products: rows of a table, from an offset, times one slab of weights.
  `accumulate_apply` reads their sum, and `finish_apply` reads what follows it — the scaling, the bias, the positive part,
  the product with the second weights, the last bias and the logistic function. `stored_apply` joins them. The kernel body
  treats its two images by two copies of the same operations; `second_eq` says the second copy computes what the first does.
-/
module

public import proofs.«01_k».proof.Proof.Rows
public import Idealize.ShloMosaic.Lib.MatmulPlain

@[expose] public section

noncomputable section

open scoped BigOperators
open Idealize.ShloMosaic Idealize.ShloMosaic.ValueIdx
open Cert.KernelIdeal Cert.KernelIdeal.Gen

namespace Cert.Saliency

/-- One matrix product at row `p`, output channel `o`: row `off + p` of the table times the slab, summed over the input
    channels. -/
theorem tap_apply (off : ℕ) (h : S1088x384.Slices ![off, 0] S1024x384) (table : FVec Ideal S1088x384 .fp8e4m3)
    (slab : Vec Ideal S1x384x128 .fp8e4m3) (p : Fin 1024) (o : Fin 128) (r : Fin 1088) (hr : r.val = off + p.val) :
    matmul dot_S1024x384_S384x128_S1024x128_1_0_0_1_n_n none (extractStridedSlice S1024x384 ![off, 0] table h)
        (shapeCast S384x128 slab shapeCasts_S1x384x128_S384x128 : FVec Ideal S384x128 .fp8e4m3)
        (constant S1024x128 .f32 0x00000000#32) (ix2 p o)
      = ∑ c : Fin 384, table (ix2 r c) * slab (ix3 (0 : Fin 1) c o) := by
  refine (Ideal.matmul_plain_apply none _ _ _ p o).trans ?_
  rw [constant_apply, Ideal.ofBits_zero_f32, zero_add]
  refine Finset.sum_congr rfl fun c _ => ?_
  rw [slice2_axis0_apply off table h p c r hr]
  exact congrArg (table (ix2 r c) * ·) (shapeCast_1ab_ab_apply slab shapeCasts_S1x384x128_S384x128 c o)

/-- The sum over one tap's channels: the zero-padded picture, moved by the tap, times slab `k` of the weights. -/
def tapSum (v : S1x32x32x384.Idx → EReal) (slab : S1x384x128.Idx → EReal) (p : Fin 1024) (o : Fin 128) (ky kx : ℕ) : EReal :=
  ∑ c : Fin 384, padded (pixels v) (p.val / 32 + ky) (p.val % 32 + kx) c * slab (ix3 (0 : Fin 1) c o)

/-- A tap of kernel column 0 reads the left table. -/
theorem tap_left (ky : ℕ) (off : ℕ) (hk : off = 32 * ky) (h : S1088x384.Slices ![off, 0] S1024x384) (hb : ky < 3)
    (v : Vec Ideal S1x32x32x384 .f32) (slab : Vec Ideal S1x384x128 .fp8e4m3) (p : Fin 1024) (o : Fin 128) :
    matmul dot_S1024x384_S384x128_S1024x128_1_0_0_1_n_n none (extractStridedSlice S1024x384 ![off, 0] (k0_pay5 (F := Ideal) v) h)
        (shapeCast S384x128 slab shapeCasts_S1x384x128_S384x128 : FVec Ideal S384x128 .fp8e4m3)
        (constant S1024x128 .f32 0x00000000#32) (ix2 p o) = tapSum v slab p o ky 0 := by
  have hp := p.isLt
  refine (tap_apply off h _ slab p o ⟨off + p.val, by omega⟩ rfl).trans (Finset.sum_congr rfl fun c _ => ?_)
  rw [left_apply]
  show padded _ ((off + p.val) / 32) ((off + p.val) % 32) c * _ = _
  rw [show (off + p.val) / 32 = p.val / 32 + ky by omega, show (off + p.val) % 32 = p.val % 32 + 0 by omega]

/-- A tap of kernel column 1 reads the middle table. -/
theorem tap_middle (ky : ℕ) (off : ℕ) (hk : off = 32 * ky) (h : S1088x384.Slices ![off, 0] S1024x384) (hb : ky < 3)
    (v : Vec Ideal S1x32x32x384 .f32) (slab : Vec Ideal S1x384x128 .fp8e4m3) (p : Fin 1024) (o : Fin 128) :
    matmul dot_S1024x384_S384x128_S1024x128_1_0_0_1_n_n none (extractStridedSlice S1024x384 ![off, 0] (k0_pay6 (F := Ideal) v) h)
        (shapeCast S384x128 slab shapeCasts_S1x384x128_S384x128 : FVec Ideal S384x128 .fp8e4m3)
        (constant S1024x128 .f32 0x00000000#32) (ix2 p o) = tapSum v slab p o ky 1 := by
  have hp := p.isLt
  refine (tap_apply off h _ slab p o ⟨off + p.val, by omega⟩ rfl).trans (Finset.sum_congr rfl fun c _ => ?_)
  rw [middle_apply]
  show padded _ ((off + p.val) / 32) ((off + p.val) % 32 + 1) c * _ = _
  rw [show (off + p.val) / 32 = p.val / 32 + ky by omega, show (off + p.val) % 32 = p.val % 32 by omega]

/-- A tap of kernel column 2 reads the right table. -/
theorem tap_right (ky : ℕ) (off : ℕ) (hk : off = 32 * ky) (h : S1088x384.Slices ![off, 0] S1024x384) (hb : ky < 3)
    (v : Vec Ideal S1x32x32x384 .f32) (slab : Vec Ideal S1x384x128 .fp8e4m3) (p : Fin 1024) (o : Fin 128) :
    matmul dot_S1024x384_S384x128_S1024x128_1_0_0_1_n_n none (extractStridedSlice S1024x384 ![off, 0] (k0_pay7 (F := Ideal) v) h)
        (shapeCast S384x128 slab shapeCasts_S1x384x128_S384x128 : FVec Ideal S384x128 .fp8e4m3)
        (constant S1024x128 .f32 0x00000000#32) (ix2 p o) = tapSum v slab p o ky 2 := by
  have hp := p.isLt
  refine (tap_apply off h _ slab p o ⟨off + p.val, by omega⟩ rfl).trans (Finset.sum_congr rfl fun c _ => ?_)
  rw [right_apply]
  show padded _ ((off + p.val) / 32) ((off + p.val) % 32 + 2) c * _ = _
  rw [show (off + p.val) / 32 = p.val / 32 + ky by omega, show (off + p.val) % 32 = p.val % 32 by omega]

/-- One matrix product: a table's rows from `off`, times a slab, onto zero. -/
def product (table : FVec Ideal S1088x384 .fp8e4m3) (slab : Vec Ideal S1x384x128 .fp8e4m3) (off : ℕ)
    (h : S1088x384.Slices ![off, 0] S1024x384) : FVec Ideal S1024x128 .f32 :=
  matmul dot_S1024x384_S384x128_S1024x128_1_0_0_1_n_n none (extractStridedSlice S1024x384 ![off, 0] table h)
    (shapeCast S384x128 slab shapeCasts_S1x384x128_S384x128 : FVec Ideal S384x128 .fp8e4m3)
    (constant S1024x128 .f32 0x00000000#32)

/-- The nine products of one image, summed in the kernel's order. -/
def accumulate (v : Vec Ideal S1x32x32x384 .f32) (w : Fin 3 → Fin 3 → Vec Ideal S1x384x128 .fp8e4m3) : FVec Ideal S1024x128 .f32 :=
  addf (addf (addf (addf (addf (addf (addf (addf (addf (broadcast S1024x128 (Scalar.ofBits .f32 0x00000000#32))
    (product (k0_pay5 v) (w 0 0) 0 slices_S1088x384_o0_0_S1024x384))
    (product (k0_pay6 v) (w 0 1) 0 slices_S1088x384_o0_0_S1024x384))
    (product (k0_pay7 v) (w 0 2) 0 slices_S1088x384_o0_0_S1024x384))
    (product (k0_pay5 v) (w 1 0) 32 slices_S1088x384_o32_0_S1024x384))
    (product (k0_pay6 v) (w 1 1) 32 slices_S1088x384_o32_0_S1024x384))
    (product (k0_pay7 v) (w 1 2) 32 slices_S1088x384_o32_0_S1024x384))
    (product (k0_pay5 v) (w 2 0) 64 slices_S1088x384_o64_0_S1024x384))
    (product (k0_pay6 v) (w 2 1) 64 slices_S1088x384_o64_0_S1024x384))
    (product (k0_pay7 v) (w 2 2) 64 slices_S1088x384_o64_0_S1024x384)

/-- The sum of the nine products at row `p`, output channel `o`. -/
theorem accumulate_apply (v : Vec Ideal S1x32x32x384 .f32) (w : Fin 3 → Fin 3 → Vec Ideal S1x384x128 .fp8e4m3) (p : Fin 1024)
    (o : Fin 128) : accumulate v w (ix2 p o) = nine fun ky kx => tapSum v (w ky kx) p o ky.val kx.val := by
  unfold accumulate
  simp only [addf_apply, broadcast_apply]
  unfold product
  rw [tap_left 0 0 rfl _ (by omega), tap_middle 0 0 rfl _ (by omega), tap_right 0 0 rfl _ (by omega),
    tap_left 1 32 rfl _ (by omega), tap_middle 1 32 rfl _ (by omega), tap_right 1 32 rfl _ (by omega),
    tap_left 2 64 rfl _ (by omega), tap_middle 2 64 rfl _ (by omega), tap_right 2 64 rfl _ (by omega)]
  show Ideal.ofBits .f32 0x00000000#32 + _ + _ + _ + _ + _ + _ + _ + _ + _ = _
  rw [Ideal.ofBits_zero_f32]
  rfl

/-- What follows the nine products: scaling, bias, positive part, the second weights, the last bias, the logistic function. -/
def finish (a : FVec Ideal S1024x128 .f32) (b1 w2 : Vec Ideal S1x128 .f32) (b2 : Vec Ideal S1x1 .f32) : FVec Ideal S1x1024 .f32 :=
  logistic (addf (matmul dot_S1x128_S1024x128_S1x1024_1_1_0_0_n_n none
      (truncf .bf16 (shapeCast S1x128 w2 shapeCasts_S1x128_S1x128) bitsLt_bf16_f32)
      (truncf .bf16 (maximumf (addf (mulf a (broadcast S1024x128 (Scalar.ofBits .f32 0x3B800000#32)))
          (broadcastTo S1024x128 (shapeCast S1x128 (shapeCast S128 b1 shapeCasts_S1x128_S128) shapeCasts_S128_S1x128)
            broadcasts_S1x128_S1024x128))
        (broadcast S1024x128 (Scalar.ofBits .f32 0x00000000#32))) bitsLt_bf16_f32)
      (constant S1x1024 .f32 0x00000000#32))
    (broadcast S1x1024 (extractAt ![0, 0] b2 inpos_S1x1_p0_0)))

/-- The float written 0x3B800000 is 1/256. -/
theorem ofBits_inv256 : Ideal.ofBits .f32 0x3B800000#32 = (((1 : ℝ) / 256 : ℝ) : EReal) := by
  simp [Ideal.ofBits, Ideal.ieee, -EReal.coe_mul]
  norm_num

/-- `finish` at pixel `p`: the head of the formula at the scaled row `p`. -/
theorem finish_apply (a : FVec Ideal S1024x128 .f32) (b1 w2 : Vec Ideal S1x128 .f32) (b2 : Vec Ideal S1x1 .f32) (p : Fin 1024) :
    finish a b1 w2 b2 (ix2 (0 : Fin 1) p)
      = head (fun o => a (ix2 p o) * (((1 : ℝ) / 256 : ℝ) : EReal)) (fun o => b1 (ix2 (0 : Fin 1) o))
          (fun o => w2 (ix2 (0 : Fin 1) o)) (b2 (ix2 (0 : Fin 1) (0 : Fin 1))) := by
  have hb2 : extractAt ![0, 0] b2 inpos_S1x1_p0_0 = b2 (ix2 (0 : Fin 1) (0 : Fin 1)) :=
    congrArg b2 (funext fun i => Subsingleton.elim (h := by match i with | ⟨0, _⟩ | ⟨1, _⟩ => exact Fin.subsingleton_one) _ _)
  unfold finish head
  show Ideal.logistic (_ + extractAt ![0, 0] b2 inpos_S1x1_p0_0) = _
  rw [hb2]
  refine congrArg (fun z => Ideal.logistic (z + b2 (ix2 (0 : Fin 1) (0 : Fin 1)))) ?_
  refine (Ideal.matmul_transposedRhs_apply none _ _ _ (0 : Fin 1) p).trans ?_
  rw [constant_apply, Ideal.ofBits_zero_f32, zero_add]
  refine Finset.sum_congr rfl fun o _ => ?_
  have hb1 : broadcastTo S1024x128 (shapeCast S1x128 (shapeCast S128 b1 shapeCasts_S1x128_S128) shapeCasts_S128_S1x128)
      broadcasts_S1x128_S1024x128 (ix2 p o) = b1 (ix2 (0 : Fin 1) o) :=
    (broadcastTo_1b_ab_apply _ _ p o).trans ((shapeCast_a_1a_apply _ _ _ _).trans (shapeCast_1a_a_apply _ _ _))
  rw [truncf_apply, truncf_apply, shapeCast_self, maximumf_apply, addf_apply, mulf_apply, hb1]
  show _ * max (_ * Ideal.ofBits .f32 0x3B800000#32 + _) (Ideal.ofBits .f32 0x00000000#32) = _
  rw [ofBits_inv256, Ideal.ofBits_zero_f32]

/-- What the kernel stores for one image: one row of 1024 pixels. -/
def stored (v : Vec Ideal S1x32x32x384 .f32) (w : Fin 3 → Fin 3 → Vec Ideal S1x384x128 .fp8e4m3) (b1 w2 : Vec Ideal S1x128 .f32)
    (b2 : Vec Ideal S1x1 .f32) : FVec Ideal S1x1x1024 .f32 :=
  shapeCast S1x1x1024 (finish (accumulate v w) b1 w2 b2) shapeCasts_S1x1024_S1x1x1024

/-- The stored value of pixel `p`. -/
theorem stored_apply (v : Vec Ideal S1x32x32x384 .f32) (w : Fin 3 → Fin 3 → Vec Ideal S1x384x128 .fp8e4m3)
    (b1 w2 : Vec Ideal S1x128 .f32) (b2 : Vec Ideal S1x1 .f32) (p : Fin 1024) :
    stored v w b1 w2 b2 (ix3 (0 : Fin 1) (0 : Fin 1) p)
      = head (fun o => (nine fun ky kx => tapSum v (w ky kx) p o ky.val kx.val) * (((1 : ℝ) / 256 : ℝ) : EReal))
          (fun o => b1 (ix2 (0 : Fin 1) o)) (fun o => w2 (ix2 (0 : Fin 1) o)) (b2 (ix2 (0 : Fin 1) (0 : Fin 1))) := by
  refine (shapeCast_ab_1ab_apply _ _ _ _ _).trans ?_
  rw [finish_apply]
  simp only [accumulate_apply]

/-- The kernel's operations on its first image are `stored`. -/
theorem first_eq (v : Vec Ideal S1x32x32x384 .f32) (w : Fin 3 → Fin 3 → Vec Ideal S1x384x128 .fp8e4m3)
    (b1 w2 : Vec Ideal S1x128 .f32) (b2 : Vec Ideal S1x1 .f32) :
    k0_pay10 (k0_pay6 v) (k0_pay7 v)
        (k0_pay8 (k0_pay5 v) (k0_pay6 v) (k0_pay7 v) (Scalar.ofBits .f32 0x00000000#32) (w 0 0) (w 0 1) (w 0 2) (w 1 0) (w 1 1) (w 1 2))
        (k0_pay9 (k0_pay5 v)) (w 2 0) (w 2 1) (w 2 2) b1 w2 b2 = stored v w b1 w2 b2 := rfl

/-- The kernel's operations on its second image are `stored` too. -/
theorem second_eq (v : Vec Ideal S1x32x32x384 .f32) (w : Fin 3 → Fin 3 → Vec Ideal S1x384x128 .fp8e4m3)
    (b1 w2 : Vec Ideal S1x128 .f32) (b2 : Vec Ideal S1x1 .f32) :
    k0_pay1 (k0_pay15 v) (k0_pay16 v)
        (k0_pay19 (k0_pay14 v) (k0_pay15 v) (k0_pay16 v) k0_pay17 (k0_pay18 v) (w 0 0) (w 0 1) (w 0 2) (w 1 0) (w 1 1) (w 1 2) (w 2 0))
        (w 2 1) (w 2 2) b1 w2 b2 = stored v w b1 w2 b2 := rfl

end Cert.Saliency

end
-- ==== Proof.Block.lean ====
/-
  What one grid point leaves in its block of the result: two rows of 1024 pixels, one for each of its two images.

  `rowValue` is the value of one pixel of one image, from the weight table, the biases and the second weights as the kernel
  holds them. `out_apply` says that entry `(j, 0, p)` of the block is `rowValue` of image `j` of the block at pixel `p`.
-/
module

public import proofs.«01_k».proof.Proof.Pixel
public import proofs.«01_k».proof.Proof.Gen.KernelIdeal.Frame

@[expose] public section

noncomputable section

open scoped BigOperators
open Idealize.ShloMosaic Idealize.ShloMosaic.ValueIdx
open Cert.KernelIdeal Cert.KernelIdeal.Gen

namespace Cert.Saliency

/-- The value of pixel `p` of an image, from the nine slabs of weights (slab `3 ky + kx` for the tap `(ky, kx)`), the two
    biases and the second weights. -/
def rowValue (img : Image) (table : S9x384x128.Idx → EReal) (b1 w2 : S1x128.Idx → EReal) (b2 : S1x1.Idx → EReal) (p : Fin 1024) :
    EReal :=
  head (fun o => (nine fun ky kx => ∑ c : Fin 384, padded img (p.val / 32 + ky.val) (p.val % 32 + kx.val) c
        * table (ix3 (⟨3 * ky.val + kx.val, by omega⟩ : Fin 9) c o)) * (((1 : ℝ) / 256 : ℝ) : EReal))
    (fun o => b1 (ix2 (0 : Fin 1) o)) (fun o => w2 (ix2 (0 : Fin 1) o)) (b2 (ix2 (0 : Fin 1) (0 : Fin 1)))

/-- Slab `k` of the weight table, as the kernel loads it. -/
def slab (table : Vec Ideal S9x384x128 .fp8e4m3) : Fin 3 → Fin 3 → Vec Ideal S1x384x128 .fp8e4m3 :=
  fun ky kx => fun i => table (ix3 (⟨3 * ky.val + kx.val, by omega⟩ : Fin 9) (i 1) (i 2))

/-- Loading one slab of the table through the unit rectangle at `k` gives slab `k`. -/
theorem ld_slab (table : Vec Ideal S9x384x128 .fp8e4m3) (ky kx : Fin 3) (k : ℕ) (hk : k = 3 * ky.val + kx.val)
    (inb : ∀ a, (![k, 0, 0] : Fin 3 → ℕ) a + S1x384x128.size a ≤ S9x384x128.size a) :
    View.ld table (Rect.unit (s := S9x384x128) ![k, 0, 0] S1x384x128.size inb) = slab table ky kx := by
  subst hk
  rw [View.ld_unit]
  funext i
  refine extractStridedSlice_apply _ _ _ i _ ?_
  intro a
  match a with
  | ⟨0, _⟩ =>
    have : (i 0).val = 0 := Nat.lt_one_iff.mp (i 0).isLt
    show 3 * ky.val + kx.val = 3 * ky.val + kx.val + (i 0).val
    omega
  | ⟨1, _⟩ => exact (Nat.zero_add _).symm
  | ⟨2, _⟩ => exact (Nat.zero_add _).symm

/-- Loading image `j` of the block gives its pixels. -/
theorem pixels_ld (x : Vec Ideal S2x32x32x384 .f32) (j : Fin 2) (k : ℕ) (hk : k = j.val)
    (inb : ∀ a, (![k, 0, 0, 0] : Fin 4 → ℕ) a + S1x32x32x384.size a ≤ S2x32x32x384.size a) :
    pixels (View.ld x (Rect.unit (s := S2x32x32x384) ![k, 0, 0, 0] S1x32x32x384.size inb)) = fun r q c => x (ix4 j r q c) := by
  subst hk
  rw [View.ld_unit]
  funext r q c
  refine extractStridedSlice_apply _ _ _ _ _ ?_
  intro a
  match a with
  | ⟨0, _⟩ => rfl
  | ⟨1, _⟩ => exact (Nat.zero_add _).symm
  | ⟨2, _⟩ => exact (Nat.zero_add _).symm
  | ⟨3, _⟩ => exact (Nat.zero_add _).symm

/-- What the body stores for one image is `rowValue` of that image. -/
theorem stored_slab_apply (v : Vec Ideal S1x32x32x384 .f32) (table : Vec Ideal S9x384x128 .fp8e4m3) (b1 w2 : Vec Ideal S1x128 .f32)
    (b2 : Vec Ideal S1x1 .f32) (p : Fin 1024) :
    stored v (slab table) b1 w2 b2 (ix3 (0 : Fin 1) (0 : Fin 1) p) = rowValue (pixels v) table b1 w2 b2 p :=
  stored_apply v (slab table) b1 w2 b2 p

theorem zeros₂ : (![0, 0] : Fin 2 → ℕ) = fun _ => 0 := funext fun a => by
  match a with
  | ⟨0, _⟩ => rfl
  | ⟨1, _⟩ => rfl

/-- The block after the body: two stores, one row for each image. -/
theorem out_eq (x : Vec Ideal S2x32x32x384 .f32) (table : Vec Ideal S9x384x128 .fp8e4m3) (b1 w2 : Vec Ideal S1x128 .f32)
    (b2 : Vec Ideal S1x1 .f32) :
    out0_5 x table b1 w2 b2 = View.canon (Val := Elt Ideal) [⟨r0_14, stored (View.ld x r0_13) (slab table) b1 w2 b2⟩,
      ⟨r0_12, stored (View.ld x r0_0) (slab table) b1 w2 b2⟩] := by
  unfold out0_5 k0_pay24 k0_pay23 k0_pay22 k0_pay21 k0_pay20
  rw [ld_slab table 0 0 0 rfl, ld_slab table 0 1 1 rfl, ld_slab table 0 2 2 rfl, ld_slab table 1 0 3 rfl, ld_slab table 1 1 4 rfl,
    ld_slab table 1 2 5 rfl, ld_slab table 2 0 6 rfl, ld_slab table 2 1 7 rfl, ld_slab table 2 2 8 rfl,
    View.ld_unit_zero zeros₂, View.ld_unit_zero zeros₂, View.ld_unit_zero zeros₂,
    first_eq (View.ld x r0_0) (slab table), second_eq (View.ld x r0_13) (slab table)]

/-- Entry `(j, 0, p)` of the block is the value of pixel `p` of image `j`. -/
theorem out_apply (x : Vec Ideal S2x32x32x384 .f32) (table : Vec Ideal S9x384x128 .fp8e4m3) (b1 w2 : Vec Ideal S1x128 .f32)
    (b2 : Vec Ideal S1x1 .f32) (i : S2x1x1024.Idx) :
    out0_5 x table b1 w2 b2 i = rowValue (fun r q c => x (ix4 (i 0) r q c)) table b1 w2 b2 (i 2) := by
  rw [out_eq]
  refine View.canon_apply_of_pieces (Val := Elt Ideal) (e := .f32) (fun i : S2x1x1024.Idx => rowValue (fun r q c => x (ix4 (i 0) r q c)) table b1 w2 b2 (i 2)) _ ?_ i
    (cover0_5 _ _ i)
  have e (y : S1x1x1024.Idx) : y = ix3 (0 : Fin 1) (0 : Fin 1) (y 2) := by
    rw [eq_ix3 y]
    exact congrArg₂ (fun a b => ix3 a b (y 2)) (Subsingleton.elim (α := Fin 1) _ _) (Subsingleton.elim (α := Fin 1) _ _)
  intro pc hpc y
  simp only [List.mem_cons, List.mem_nil_iff, or_false] at hpc
  rcases hpc with rfl | rfl
  · have h0 : r0_14.emb y 0 = (1 : Fin 2) := Fin.ext (by
      have : (y 0).val = 0 := Nat.lt_one_iff.mp (y 0).isLt
      show 1 + 1 * (y 0).val = (1 : ℕ)
      omega)
    have h2 : r0_14.emb y 2 = (y 2 : Fin 1024) := Fin.ext (by
      show 0 + 1 * (y 2).val = (y 2).val
      omega)
    show stored _ _ _ _ _ y = rowValue (fun r q c => x (ix4 (r0_14.emb y 0 : Fin 2) r q c)) table b1 w2 b2 (r0_14.emb y 2)
    rw [h0, h2]
    refine (congrArg _ (e y)).trans ((stored_slab_apply _ _ _ _ _ _).trans ?_)
    rw [pixels_ld x 1 1 rfl]
  · have h0 : r0_12.emb y 0 = (0 : Fin 2) := Fin.ext (by
      have : (y 0).val = 0 := Nat.lt_one_iff.mp (y 0).isLt
      show 0 + 1 * (y 0).val = (0 : ℕ)
      omega)
    have h2 : r0_12.emb y 2 = (y 2 : Fin 1024) := Fin.ext (by
      show 0 + 1 * (y 2).val = (y 2).val
      omega)
    show stored _ _ _ _ _ y = rowValue (fun r q c => x (ix4 (r0_12.emb y 0 : Fin 2) r q c)) table b1 w2 b2 (r0_12.emb y 2)
    rw [h0, h2]
    refine (congrArg _ (e y)).trans ((stored_slab_apply _ _ _ _ _ _).trans ?_)
    rw [pixels_ld x 0 0 rfl]

end Cert.Saliency

end
-- ==== Proof.Array.lean ====
/-
  What the kernel's result array holds once every block has been written back: entry `(b, 0, p)` is `rowValue` of image `b`
  at pixel `p`, from the arrays the kernel is handed. Grid point `t` writes the rows of images `2 t` and `2 t + 1`.
-/
module

public import proofs.«01_k».proof.Proof.Block

@[expose] public section

noncomputable section

open scoped BigOperators
open Idealize.ShloMosaic Idealize.ShloMosaic.ValueIdx
open Cert.KernelIdeal Cert.KernelIdeal.Gen

namespace Cert.Saliency

variable (m : (ℓ : Loc nD τ sig) → Buf (Elt Ideal) ℓ)

/-- The sixteen rows of 1024 pixel values, from the arrays at the kernel's launch. -/
def rows (c : Dev nD) : S16x1x1024.Idx → EReal := fun i =>
  rowValue (fun r q ch => (V m c main_arg0 : S16x32x32x384.Idx → EReal) (ix4 (i 0) r q ch)) (V m c main_v4) (V m c main_v5)
    (V m c main_v6) (V m c main_v7) (i 2)

/-- Where point `t`'s block of images and block of rows lie: both start at image `2 t`. -/
theorem starts (t : Fin cfg0.N) :
    win0_0.index t 0 * win0_0.size 0 = 2 * t.val ∧ win0_0.index t 1 = 0 ∧ win0_0.index t 2 = 0 ∧ win0_0.index t 3 = 0
      ∧ win0_5.index t 0 * win0_5.size 0 = 2 * t.val ∧ win0_5.index t 1 = 0 ∧ win0_5.index t 2 = 0
      ∧ win0_5.xsize (grid0.coords t) 0 = 2 ∧ win0_5.xsize (grid0.coords t) 1 = 1 ∧ win0_5.xsize (grid0.coords t) 2 = 1024 := by
  rcases fin_N0 t with rfl | rfl | rfl | rfl | rfl | rfl | rfl | rfl <;> decide +kernel

/-- The block of images at point `t`: image `j` of the block is image `2 t + j`. -/
theorem images_apply (c : Dev nD) (t : Fin cfg0.N) (j : Fin 2) (r q : Fin 32) (ch : Fin 384) (b : Fin 16)
    (hb : b.val = 2 * t.val + j.val) :
    (iblk m c 0 t : S2x32x32x384.Idx → EReal) (ix4 j r q ch) = (V m c main_arg0 : S16x32x32x384.Idx → EReal) (ix4 b r q ch) := by
  obtain ⟨h0, h1, h2, h3, -⟩ := starts t
  refine congrArg (V m c main_arg0 : S16x32x32x384.Idx → EReal) ?_
  funext a
  match a with
  | ⟨0, _⟩ =>
    refine Fin.ext ((Pipeline.Window.rect_emb_val win0_0 t (ix4 j r q ch) 0).trans ?_)
    rw [h0]
    exact hb.symm
  | ⟨1, _⟩ => exact Fin.ext (Pipeline.Window.rect_emb_val_of_index_zero win0_0 t 1 h1 (ix4 j r q ch))
  | ⟨2, _⟩ => exact Fin.ext (Pipeline.Window.rect_emb_val_of_index_zero win0_0 t 2 h2 (ix4 j r q ch))
  | ⟨3, _⟩ => exact Fin.ext (Pipeline.Window.rect_emb_val_of_index_zero win0_0 t 3 h3 (ix4 j r q ch))

/-- The weight table is handed to every point whole, -/
theorem table_whole (c : Dev nD) (t : Fin cfg0.N) : iblk m c 1 t = V m c main_v4 := by
  funext y
  refine congrArg (V m c main_v4 : S9x384x128.Idx → EReal) (funext fun a => Fin.ext ?_)
  exact Pipeline.Window.rect_emb_val_of_index_zero win0_1 t a (by match a with | ⟨0, _⟩ => rfl | ⟨1, _⟩ => rfl | ⟨2, _⟩ => rfl) y

/-- as are the first bias, -/
theorem bias_whole (c : Dev nD) (t : Fin cfg0.N) : iblk m c 2 t = V m c main_v5 := by
  funext y
  refine congrArg (V m c main_v5 : S1x128.Idx → EReal) (funext fun a => Fin.ext ?_)
  exact Pipeline.Window.rect_emb_val_of_index_zero win0_2 t a (by match a with | ⟨0, _⟩ => rfl | ⟨1, _⟩ => rfl) y

/-- the second weights -/
theorem weights_whole (c : Dev nD) (t : Fin cfg0.N) : iblk m c 3 t = V m c main_v6 := by
  funext y
  refine congrArg (V m c main_v6 : S1x128.Idx → EReal) (funext fun a => Fin.ext ?_)
  exact Pipeline.Window.rect_emb_val_of_index_zero win0_3 t a (by match a with | ⟨0, _⟩ => rfl | ⟨1, _⟩ => rfl) y

/-- and the second bias. -/
theorem offset_whole (c : Dev nD) (t : Fin cfg0.N) : iblk m c 4 t = V m c main_v7 := by
  funext y
  refine congrArg (V m c main_v7 : S1x1.Idx → EReal) (funext fun a => Fin.ext ?_)
  exact Pipeline.Window.rect_emb_val_of_index_zero win0_4 t a (by match a with | ⟨0, _⟩ => rfl | ⟨1, _⟩ => rfl) y

/-- What point `t` writes back is its block of `rows`. -/
theorem flushed_rows (c : Dev nD) (t : Fin cfg0.N) :
    (dats m 0 c).flushed 5 t = (win0_5.blk t).view.read (Elt Ideal) (rows m c) := by
  show (cfg0.win 5).cut (grid0.coords t) ((dats m 0 c).after 5 t) = _
  rw [after0_5, table_whole, bias_whole, weights_whole, offset_whole]
  obtain ⟨-, -, -, -, h0, h1, h2, -⟩ := starts t
  have hN : cfg0.N = 8 := N_0
  have key (y : S2x1x1024.Idx) (z : S16x1x1024.Idx) (hz0 : (z 0).val = 2 * t.val + (y 0).val) (hz2 : (z 2).val = (y 2).val) :
      out0_5 (iblk m c 0 t) (V m c main_v4) (V m c main_v5) (V m c main_v6) (V m c main_v7) y = rows m c z := by
    rw [out_apply]
    unfold rows
    have e2 : (z 2 : Fin 1024) = y 2 := Fin.ext hz2
    rw [e2]
    congr 1
    funext r q ch
    exact images_apply m c t (y 0) r q ch (z 0) hz0
  funext y
  refine key y ((win0_5.rect t).emb y) ?_ ?_
  · refine (Pipeline.Window.rect_emb_val win0_5 t y 0).trans ?_
    rw [h0]
  · exact Pipeline.Window.rect_emb_val_of_index_zero win0_5 t 2 h2 y

/-- An entry of the result is in point `t`'s block when its image is `2 t` or `2 t + 1`. -/
theorem mem_block (t : Fin cfg0.N) (i : S16x1x1024.Idx) :
    i ∈ ((cfg0.win 5).blk t).view.set ↔ 2 * t.val ≤ (i 0).val ∧ (i 0).val < 2 * t.val + 2 := by
  show i ∈ ((View.whole main_v8).slice (win0_5.rect t)).set ↔ _
  rw [View.set_slice_whole, Rect.mem_set_unit]
  obtain ⟨-, -, -, -, h0, h1, h2, s0, s1, s2⟩ := starts t
  have b1 : (i 1).val < 1 := (i 1).isLt
  have b2 : (i 2).val < 1024 := (i 2).isLt
  constructor
  · intro h
    have : win0_5.index t 0 * win0_5.size 0 ≤ (i 0).val
        ∧ (i 0).val < win0_5.index t 0 * win0_5.size 0 + win0_5.xsize (grid0.coords t) 0 := h 0
    rwa [h0, s0] at this
  · intro h a
    match a with
    | ⟨0, _⟩ =>
      show win0_5.index t 0 * win0_5.size 0 ≤ (i 0).val
        ∧ (i 0).val < win0_5.index t 0 * win0_5.size 0 + win0_5.xsize (grid0.coords t) 0
      rwa [h0, s0]
    | ⟨1, _⟩ =>
      show win0_5.index t 1 * win0_5.size 1 ≤ (i 1).val
        ∧ (i 1).val < win0_5.index t 1 * win0_5.size 1 + win0_5.xsize (grid0.coords t) 1
      rw [h1, s1]
      omega
    | ⟨2, _⟩ =>
      show win0_5.index t 2 * win0_5.size 2 ≤ (i 2).val
        ∧ (i 2).val < win0_5.index t 2 * win0_5.size 2 + win0_5.xsize (grid0.coords t) 2
      rw [h2, s2]
      omega

/-- Every entry of the result is in the block of point `b / 2`, `b` its image. -/
theorem covered (i : S16x1x1024.Idx) : ∃ t : Fin cfg0.N, (cfg0.win 5).flush t = true ∧ i ∈ ((cfg0.win 5).blk t).view.set := by
  have h0 : (i 0).val < 16 := (i 0).isLt
  have hN : cfg0.N = 8 := N_0
  refine ⟨⟨(i 0).val / 2, by omega⟩, flush0_5 _, ?_⟩
  rw [mem_block]
  dsimp only
  omega

/-- The result array ends holding `rows`. -/
theorem final_rows (c : Dev nD) : (dats m 0 c).arrAt 5 cfg0.N = rows m c :=
  (dats m 0 c).arrAt_eq_of_cover 5 (rows m c) (fun t _ => flushed_rows m c t) covered

end Cert.Saliency

end
-- ==== Proof.Host.lean ====
/-
  The operations around the kernel. Before it the first weights are turned to the order (tap row, tap column, input channel,
  output channel), multiplied by 256 and laid out as nine slabs, and the biases and second weights are reshaped. After it the
  sixteen rows of 1024 pixel values are reshaped to sixteen 32 by 32 images.

  Each theorem gives an entry of one of these arrays in terms of the arguments; `rows_eq` puts them together: a row's pixel is
  its saliency, the scaling by 256 undone by the kernel's multiplication by 1/256.
-/
module

public import proofs.«01_k».proof.Proof.Array
public import Idealize.ShloMosaic.Lib.IdealHost
public import Idealize.ShloMosaic.Lib.StableHlo.Run

@[expose] public section

noncomputable section

open scoped BigOperators
open Idealize.ShloMosaic Idealize.ShloMosaic.TcCoe Idealize.ShloMosaic.ValueIdx
open Cert.KernelIdeal Cert.KernelIdeal.Gen

namespace Cert.Saliency

variable (m : (ℓ : Loc nD τ sig) → Buf (Elt Ideal) ℓ)

/-- The batch of images the kernel is launched with. -/
def launchedImages (c : Dev nD) : Fin 16 → Image := fun b y x ch =>
  (m ((c.tc : Thread nD τ).loc main_arg0) : S16x32x32x384.Idx → EReal) (ix4 b y x ch)

/-- The three-by-three weights it is launched with. -/
def launchedWeights (c : Dev nD) : Weights := fun o ch ky kx =>
  (m ((c.tc : Thread nD τ).loc main_arg1) : S128x384x3x3.Idx → EReal) (ix4 o ch ky kx)

/-- The first bias it is launched with. -/
def launchedBias (c : Dev nD) : Fin 128 → EReal := fun o =>
  (m ((c.tc : Thread nD τ).loc main_arg2) : S128.Idx → EReal) (ix1 o)

/-- The one-by-one weights it is launched with. -/
def launchedWeights₂ (c : Dev nD) : Fin 128 → EReal := fun o =>
  (m ((c.tc : Thread nD τ).loc main_arg3) : S1x128x1x1.Idx → EReal) (ix4 (0 : Fin 1) o (0 : Fin 1) (0 : Fin 1))

/-- The second bias it is launched with. -/
def launchedBias₂ (c : Dev nD) : EReal :=
  (m ((c.tc : Thread nD τ).loc main_arg4) : S1.Idx → EReal) (ix1 (0 : Fin 1))

/-- The bit pattern the weights are multiplied by is the number 256. -/
theorem ofBits_256 : Ideal.ofBits .f32 0x43800000#32 = ((256 : ℝ) : EReal) := by
  simp [Ideal.ofBits, Ideal.ieee, -EReal.coe_mul]; norm_num

/-- Over the extended reals a change of float format leaves every entry as it is. -/
theorem convertf_same {s : Shape} (x : FVec Ideal s .f32) (i : s.Idx) : Host.convertf .fp8e4m3 x i = x i := rfl

/-- The weight table as computed from the weights. -/
theorem V_table (c : Dev nD) :
    V m c main_v4 = Host.convertf .fp8e4m3 (shapeCast S9x384x128 (mulf (transpose S3x3x384x128 [2, 3, 1, 0]
        (m ((c.tc : Thread nD τ).loc main_arg1) : S128x384x3x3.Idx → EReal) transposes_S128x384x3x3_S3x3x384x128_2_3_1_0)
      (broadcastInDim S3x3x384x128 ![] bcast_S_S3x3x384x128 (constant (F := Ideal) S_ .f32 0x43800000#32)))
      shapeCasts_S3x3x384x128_S9x384x128) := by
  show StableHlo.after _ _ (Proc.devRef .tc main_v4) = _
  simp only [hostOps0, List.flatten_cons, List.flatten_nil, List.append_nil]
  after_results
  rfl

/-- The first bias as one row, -/
theorem V_bias (c : Dev nD) :
    V m c main_v5 = shapeCast S1x128 (m ((c.tc : Thread nD τ).loc main_arg2) : S128.Idx → EReal) shapeCasts_S128_S1x128 := by
  show StableHlo.after _ _ (Proc.devRef .tc main_v5) = _
  simp only [hostOps0, List.flatten_cons, List.flatten_nil, List.append_nil]
  after_results
  rfl

/-- the second weights as one row -/
theorem V_weights (c : Dev nD) :
    V m c main_v6 = shapeCast S1x128 (m ((c.tc : Thread nD τ).loc main_arg3) : S1x128x1x1.Idx → EReal) shapeCasts_S1x128x1x1_S1x128 := by
  show StableHlo.after _ _ (Proc.devRef .tc main_v6) = _
  simp only [hostOps0, List.flatten_cons, List.flatten_nil, List.append_nil]
  after_results
  rfl

/-- and the second bias as one entry. -/
theorem V_offset (c : Dev nD) :
    V m c main_v7 = shapeCast S1x1 (m ((c.tc : Thread nD τ).loc main_arg4) : S1.Idx → EReal) shapeCasts_S1_S1x1 := by
  show StableHlo.after _ _ (Proc.devRef .tc main_v7) = _
  simp only [hostOps0, List.flatten_cons, List.flatten_nil, List.append_nil]
  after_results
  rfl

/-- Slab `3 ky + kx` of the table holds the weights of the tap `(ky, kx)` times 256. -/
theorem table_apply (c : Dev nD) (ky kx : Fin 3) (ch : Fin 384) (o : Fin 128) :
    (V m c main_v4 : S9x384x128.Idx → EReal) (ix3 (⟨3 * ky.val + kx.val, by omega⟩ : Fin 9) ch o)
      = launchedWeights m c o ch ky kx * ((256 : ℝ) : EReal) := by
  rw [V_table]
  refine (convertf_same _ _).trans ?_
  refine (shapeCast_apply _ _ _ (ix4 ky kx ch o) ?_).trans ?_
  · rw [Shape.rowMajor_val_four, Shape.rowMajor_val_three]
    show ((ky.val * 3 + kx.val) * 384 + ch.val) * 128 + o.val = ((3 * ky.val + kx.val) * 384 + ch.val) * 128 + o.val
    omega
  · refine congrArg₂ (fun a b : EReal => a * b) ?_ ((broadcastInDim_scalar_apply _ _ _).trans ofBits_256)
    refine transpose_apply _ _ _ _ (ix4 o ch ky kx) ?_
    intro b
    match b with
    | ⟨0, _⟩ => rfl
    | ⟨1, _⟩ => rfl
    | ⟨2, _⟩ => rfl
    | ⟨3, _⟩ => rfl

/-- Entry `o` of the row of biases is the first bias at `o`. -/
theorem bias_apply (c : Dev nD) (o : Fin 128) :
    (V m c main_v5 : S1x128.Idx → EReal) (ix2 (0 : Fin 1) o) = launchedBias m c o := by
  rw [V_bias]
  refine shapeCast_apply _ _ _ (ix1 o) ?_
  rw [Shape.rowMajor_val_one, Shape.rowMajor_val_two]
  show o.val = 0 * 128 + o.val
  omega

/-- Entry `o` of the row of second weights is the second weight at `o`. -/
theorem weights_apply (c : Dev nD) (o : Fin 128) :
    (V m c main_v6 : S1x128.Idx → EReal) (ix2 (0 : Fin 1) o) = launchedWeights₂ m c o := by
  rw [V_weights]
  refine shapeCast_apply _ _ _ (ix4 (0 : Fin 1) o (0 : Fin 1) (0 : Fin 1)) ?_
  rw [Shape.rowMajor_val_four, Shape.rowMajor_val_two]
  show ((0 * 128 + o.val) * 1 + 0) * 1 + 0 = 0 * 128 + o.val
  omega

/-- The one entry of the second bias. -/
theorem offset_apply (c : Dev nD) :
    (V m c main_v7 : S1x1.Idx → EReal) (ix2 (0 : Fin 1) (0 : Fin 1)) = launchedBias₂ m c := by
  rw [V_offset]
  refine shapeCast_apply _ _ _ (ix1 (0 : Fin 1)) ?_
  rw [Shape.rowMajor_val_one, Shape.rowMajor_val_two]
  rfl

/-- If slab `3 ky + kx` of the table holds the weights of the tap `(ky, kx)` times 256, then `rowValue` at pixel `32 y + x` is the
    unscaled convolution at `(y, x)`, followed by the bias, the positive part, the second convolution and the logistic function. -/
theorem rowValue_eq (img : Image) (table : S9x384x128.Idx → EReal) (b1 w2 : S1x128.Idx → EReal) (b2 : S1x1.Idx → EReal)
    (w : Weights) (b1' w2' : Fin 128 → EReal) (b2' : EReal) (y x : Fin 32) (p : Fin 1024) (hp : p.val = 32 * y.val + x.val)
    (ht : ∀ (ky kx : Fin 3) (ch : Fin 384) (o : Fin 128),
      table (ix3 (⟨3 * ky.val + kx.val, by omega⟩ : Fin 9) ch o) = w o ch ky kx * ((256 : ℝ) : EReal))
    (h1 : ∀ o, b1 (ix2 (0 : Fin 1) o) = b1' o) (h2 : ∀ o, w2 (ix2 (0 : Fin 1) o) = w2' o)
    (h3 : b2 (ix2 (0 : Fin 1) (0 : Fin 1)) = b2') :
    rowValue img table b1 w2 b2 p = head (conv img w y x) b1' w2' b2' := by
  have hr : p.val / 32 = y.val := by omega
  have hq : p.val % 32 = x.val := by omega
  have hconv : conv img w y x = scaledConv img w y x := funext fun o => (scaledConv_eq img w y x o).symm
  have e1 : (fun o => b1 (ix2 (0 : Fin 1) o)) = b1' := funext h1
  have e2 : (fun o => w2 (ix2 (0 : Fin 1) o)) = w2' := funext h2
  unfold rowValue
  rw [h3, hconv, e1, e2, hr, hq]
  unfold scaledConv
  simp only [ht]

/-- Pixel `32 y + x` of row `b` of the kernel's result is the saliency of pixel `(y, x)` of image `b`. -/
theorem rows_eq (c : Dev nD) (b : Fin 16) (y x : Fin 32) :
    rows m c (ix3 b (0 : Fin 1) (⟨32 * y.val + x.val, by omega⟩ : Fin 1024))
      = saliency (launchedImages m c) (launchedWeights m c) (launchedBias m c) (launchedWeights₂ m c) (launchedBias₂ m c) b y x := by
  have himg : (fun r q ch => (V m c main_arg0 : S16x32x32x384.Idx → EReal) (ix4 b r q ch)) = launchedImages m c b := by
    rw [V_main_arg0]
    rfl
  show rowValue (fun r q ch => (V m c main_arg0 : S16x32x32x384.Idx → EReal) (ix4 b r q ch)) _ _ _ _ (⟨32 * y.val + x.val, by omega⟩ : Fin 1024) = _
  rw [himg]
  exact rowValue_eq _ _ _ _ _ _ _ _ _ y x _ rfl (table_apply m c) (bias_apply m c) (weights_apply m c) (offset_apply m c)

/-- The batch of saliency maps, from the arrays the kernel is launched with. -/
def saliencyMaps (c : Dev nD) : S16x32x32x1.Idx → EReal := fun i =>
  saliency (launchedImages m c) (launchedWeights m c) (launchedBias m c) (launchedWeights₂ m c) (launchedBias₂ m c) (i 0) (i 1) (i 2)

/-- Reshaping the rows to images gives the saliency maps. -/
theorem reshape_rows (c : Dev nD) (h : S16x1x1024.ShapeCasts S16x32x32x1) : shapeCast S16x32x32x1 (rows m c) h = saliencyMaps m c := by
  funext i
  have h1 : (i 1).val < 32 := (i 1).isLt
  have h2 : (i 2).val < 32 := (i 2).isLt
  have h3 : (i 3).val < 1 := (i 3).isLt
  refine (shapeCast_apply (rows m c) h i (ix3 (i 0) (0 : Fin 1) (⟨32 * (i 1).val + (i 2).val, by omega⟩ : Fin 1024)) ?_).trans
    (rows_eq m c (i 0) (i 1) (i 2))
  rw [Shape.rowMajor_val_three, Shape.rowMajor_val_four]
  show ((i 0).val * 1 + 0) * 1024 + (32 * (i 1).val + (i 2).val) = (((i 0).val * 32 + (i 1).val) * 32 + (i 2).val) * 1 + (i 3).val
  omega

/-- After the last reshape the result holds the saliency maps. -/
theorem tail_maps (c : Dev nD) :
    Pipeline.afterTail₀ cfgs (dats m) 0 (V0 m) [hostOps1] c main_v9 = saliencyMaps m c := by
  unfold Pipeline.afterTail₀
  simp only [hostOps1, List.flatten_cons, List.flatten_nil, List.append_nil]
  after_results
  rw [Pipeline.withArrays_arr spec0 winFacts0.arr_inj c (V0 m c) _ 5, final_rows]
  exact reshape_rows m c _

/-- The kernel's run: the result holds the saliency maps and the arguments are as launched. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v9) = saliencyMaps m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have rest (b) (hb) (hb') := (h c).2 b (Pipeline.mem_restRefs_of b hb hb')
    ⟨(rest main_v9 (by decide) (by decide)).trans (tail_maps m c),
      ((h c).1 0).trans (((dats m 0 c).arrAt_in 0 rfl _).trans ((A_eq m c 0).trans (V_main_arg0 m c))),
      (rest main_arg1 (by decide) (by decide)).trans (W_main_arg1 m (dats m) c),
      (rest main_arg2 (by decide) (by decide)).trans (W_main_arg2 m (dats m) c),
      (rest main_arg3 (by decide) (by decide)).trans (W_main_arg3 m (dats m) c),
      (rest main_arg4 (by decide) (by decide)).trans (W_main_arg4 m (dats m) c)⟩) (run_main m ρ)

end Cert.Saliency

end
-- ==== Proof.Reference.lean ====
/-
  What the reference computes: entry `(b, y, x, 0)` of its result is the saliency of pixel `(y, x)` of image `b`.

  `tap` is one of its nine terms: the weights of one tap times the padded image shifted by that tap, summed over the input
  channels. Every one of the nine is the same function of the tap, so each is read by `tap_apply`.
-/
module

public import proofs.«01_k».proof.Proof.Formula
public import proofs.«01_k».proof.Proof.Gen.ReferenceIdeal.Read
public import Idealize.ShloMosaic.Lib.IdealHost
public import Idealize.ShloMosaic.Lib.KernelVsHost

@[expose] public section

noncomputable section

open scoped BigOperators
open Idealize.ShloMosaic Idealize.ShloMosaic.ValueIdx
open Cert.ReferenceIdeal Cert.ReferenceIdeal.Read

namespace Cert.Saliency.Reference

variable (x0 : S16x32x32x384.Idx → EReal) (x1 : S128x384x3x3.Idx → EReal) (x2 : S128.Idx → EReal) (x3 : S1x128x1x1.Idx → EReal)
  (x4 : S1.Idx → EReal)

/-- The images of the batch. -/
def images : Fin 16 → Image := fun b y x ch => x0 (ix4 b y x ch)

/-- The three-by-three weights. -/
def weights : Weights := fun o ch ky kx => x1 (ix4 o ch ky kx)

/-- The padded batch holds each image with a border of zeros one pixel wide. -/
theorem padded_batch (b : Fin 16) (ch : Fin 384) (r q : Fin 34) :
    val_main_v1 (F := Ideal) x0 (ix4 b ch r q) = padded (images x0 b) r.val q.val ch := by
  unfold val_main_v1
  by_cases h : (1 ≤ r.val ∧ r.val ≤ 32) ∧ 1 ≤ q.val ∧ q.val ≤ 32
  · obtain ⟨⟨r1, r2⟩, q1, q2⟩ := h
    refine (pad_apply_of_inside _ _ _ _ _ _ _ _ (ix4 b ch (⟨r.val - 1, by omega⟩ : Fin 32) (⟨q.val - 1, by omega⟩ : Fin 32)) ?_).trans ?_
    · intro a
      match a with
      | ⟨0, _⟩ => show b.val = 0 + b.val * 1; omega
      | ⟨1, _⟩ => show ch.val = 0 + ch.val * 1; omega
      | ⟨2, _⟩ => show r.val = 1 + (r.val - 1) * 1; omega
      | ⟨3, _⟩ => show q.val = 1 + (q.val - 1) * 1; omega
    · rw [padded_of_inside (images x0 b) ch (⟨r.val - 1, by omega⟩ : Fin 32) (⟨q.val - 1, by omega⟩ : Fin 32)
        (by show r.val = r.val - 1 + 1; omega) (by show q.val = q.val - 1 + 1; omega), val_main_v0_apply]
      refine congrArg x0 (funext fun a => ?_)
      match a with
      | ⟨0, _⟩ => rfl
      | ⟨1, _⟩ => rfl
      | ⟨2, _⟩ => rfl
      | ⟨3, _⟩ => rfl
  · have hz (k : S_.Idx) : val_main_call0_v0 (F := Ideal) k = 0 := sitofp_zero (φ := .f32)
    have hout : r.val = 0 ∨ 33 ≤ r.val ∨ q.val = 0 ∨ 33 ≤ q.val := by omega
    rw [padded_of_outside (images x0 b) ch hout]
    by_cases hr : 1 ≤ r.val ∧ r.val ≤ 32
    · refine (pad_apply_of_not_inside _ _ _ _ _ _ _ _ (3 : Fin 4) ?_).trans (hz _)
      rintro ⟨a1, -, a3⟩
      have b1 : 1 ≤ q.val := a1
      have b3 : (q.val - 1) / 1 < 32 := a3
      omega
    · refine (pad_apply_of_not_inside _ _ _ _ _ _ _ _ (2 : Fin 4) ?_).trans (hz _)
      rintro ⟨a1, -, a3⟩
      have b1 : 1 ≤ r.val := a1
      have b3 : (r.val - 1) / 1 < 32 := a3
      omega

/-- The term of the tap `(ky, kx)`. -/
def tap (b : Fin 16) (o : Fin 128) (y x : Fin 32) (ky kx : Fin 3) : EReal :=
  ∑ ch : Fin 384, weights x1 o ch ky kx * padded (images x0 b) (y.val + ky.val) (x.val + kx.val) ch

/-- A product of a table of weights and a batch, summed over the input channels, at an index. -/
theorem dot_apply (w : FVec Ideal S128x384 .f32) (v : FVec Ideal S16x384x32x32 .f32) (b : Fin 16) (o : Fin 128) (y x : Fin 32) :
    Host.dotGeneral dot_S128x384_S16x384x32x32_S128x16x32x32_1_1_0_023_n_n none w v (ix4 o b y x)
      = ∑ ch : Fin 384, w (ix2 o ch) * v (ix4 b ch y x) := by
  refine (Ideal.dotGeneral_apply _ _ _ _ _ _).trans ?_
  refine (Equiv.sum_comp (contrEquiv1 dot_S128x384_S16x384x32x32_S128x16x32x32_1_1_0_023_n_n 384 rfl rfl).symm _).symm.trans ?_
  refine Finset.sum_congr rfl fun ch _ => ?_
  have hk := contrEquiv1_symm_val dot_S128x384_S16x384x32x32_S128x16x32x32_1_1_0_023_n_n 384 rfl rfl ch
  refine congrArg₂ (fun s t : EReal => s * t) (congrArg w (funext fun a => Fin.ext ?_)) (congrArg v (funext fun a => Fin.ext ?_))
  · match a with
    | ⟨0, _⟩ => exact lhs_main_v6_0 _ _
    | ⟨1, _⟩ => exact (lhs_main_v6_1 _ _).trans hk
  · match a with
    | ⟨0, _⟩ => exact rhs_main_v6_0 _ _
    | ⟨1, _⟩ => exact (rhs_main_v6_1 _ _).trans hk
    | ⟨2, _⟩ => exact rhs_main_v6_2 _ _
    | ⟨3, _⟩ => exact rhs_main_v6_3 _ _

/-- The weights of one tap times the padded batch shifted by it, the axes put back in the batch's order, is that tap's term. -/
theorem tap_apply (b : Fin 16) (o : Fin 128) (y x : Fin 32) (ky kx : Fin 3)
    (hw : S128x384x3x3.Slices ![0, 0, ky.val, kx.val] S128x384x1x1)
    (hp : S16x384x34x34.Slices ![0, 0, ky.val, kx.val] S16x384x32x32) (hc : S128x384x1x1.ShapeCasts S128x384)
    (ht : S128x16x32x32.Transposes [1, 0, 2, 3] S16x128x32x32) :
    transpose S16x128x32x32 [1, 0, 2, 3] (Host.dotGeneral (F := Ideal) (φ₁ := .f32) (φ₂ := .f32) dot_S128x384_S16x384x32x32_S128x16x32x32_1_1_0_023_n_n none
        (shapeCast S128x384 (extractStridedSlice S128x384x1x1 ![0, 0, ky.val, kx.val] x1 hw) hc)
        (extractStridedSlice S16x384x32x32 ![0, 0, ky.val, kx.val] (val_main_v1 (F := Ideal) x0) hp))
      ht (ix4 b o y x) = tap x0 x1 b o y x ky kx := by
  refine (transpose_apply _ _ _ _ (ix4 o b y x) ?_).trans ((dot_apply _ _ b o y x).trans (Finset.sum_congr rfl fun ch _ => ?_))
  · intro a
    match a with
    | ⟨0, _⟩ => rfl
    | ⟨1, _⟩ => rfl
    | ⟨2, _⟩ => rfl
    | ⟨3, _⟩ => rfl
  · refine congrArg₂ (fun s t : EReal => s * t) ?_ ?_
    · refine (shapeCast_apply _ _ _ (ix4 o ch (0 : Fin 1) (0 : Fin 1)) ?_).trans (extractStridedSlice_apply _ _ _ _ (ix4 o ch ky kx) ?_)
      · rw [Shape.rowMajor_val_four, Shape.rowMajor_val_two]
        show ((o.val * 384 + ch.val) * 1 + 0) * 1 + 0 = o.val * 384 + ch.val
        omega
      · intro a
        match a with
        | ⟨0, _⟩ => exact (Nat.zero_add _).symm
        | ⟨1, _⟩ => exact (Nat.zero_add _).symm
        | ⟨2, _⟩ => rfl
        | ⟨3, _⟩ => rfl
    · refine (extractStridedSlice_apply _ _ _ _
        (ix4 b ch (⟨y.val + ky.val, by omega⟩ : Fin 34) (⟨x.val + kx.val, by omega⟩ : Fin 34)) ?_).trans (padded_batch x0 b ch _ _)
      intro a
      match a with
      | ⟨0, _⟩ => exact (Nat.zero_add _).symm
      | ⟨1, _⟩ => exact (Nat.zero_add _).symm
      | ⟨2, _⟩ => exact Nat.add_comm _ _
      | ⟨3, _⟩ => exact Nat.add_comm _ _

/-- The nine terms, added from zero in the order of the taps, are the convolution. -/
theorem conv_apply (b : Fin 16) (o : Fin 128) (y x : Fin 32) :
    val_main_v56 (F := Ideal) x0 x1 (ix4 b o y x) = conv (images x0 b) (weights x1) y x o := by
  have hz : val_main_v2 (F := Ideal) (ix4 b o y x) = 0 := by
    rw [val_main_v2_apply, val_main_cst_apply]
    exact Ideal.ofBits_zero_f32
  have e0 : val_main_v7 (F := Ideal) x0 x1 (ix4 b o y x) = tap x0 x1 b o y x 0 0 := tap_apply x0 x1 b o y x 0 0 _ _ _ _
  have e1 : val_main_v13 (F := Ideal) x0 x1 (ix4 b o y x) = tap x0 x1 b o y x 0 1 := tap_apply x0 x1 b o y x 0 1 _ _ _ _
  have e2 : val_main_v19 (F := Ideal) x0 x1 (ix4 b o y x) = tap x0 x1 b o y x 0 2 := tap_apply x0 x1 b o y x 0 2 _ _ _ _
  have e3 : val_main_v25 (F := Ideal) x0 x1 (ix4 b o y x) = tap x0 x1 b o y x 1 0 := tap_apply x0 x1 b o y x 1 0 _ _ _ _
  have e4 : val_main_v31 (F := Ideal) x0 x1 (ix4 b o y x) = tap x0 x1 b o y x 1 1 := tap_apply x0 x1 b o y x 1 1 _ _ _ _
  have e5 : val_main_v37 (F := Ideal) x0 x1 (ix4 b o y x) = tap x0 x1 b o y x 1 2 := tap_apply x0 x1 b o y x 1 2 _ _ _ _
  have e6 : val_main_v43 (F := Ideal) x0 x1 (ix4 b o y x) = tap x0 x1 b o y x 2 0 := tap_apply x0 x1 b o y x 2 0 _ _ _ _
  have e7 : val_main_v49 (F := Ideal) x0 x1 (ix4 b o y x) = tap x0 x1 b o y x 2 1 := tap_apply x0 x1 b o y x 2 1 _ _ _ _
  have e8 : val_main_v55 (F := Ideal) x0 x1 (ix4 b o y x) = tap x0 x1 b o y x 2 2 := tap_apply x0 x1 b o y x 2 2 _ _ _ _
  rw [val_main_v56_apply, val_main_v50_apply, val_main_v44_apply, val_main_v38_apply, val_main_v32_apply, val_main_v26_apply,
    val_main_v20_apply, val_main_v14_apply, val_main_v8_apply, hz, e0, e1, e2, e3, e4, e5, e6, e7, e8]
  rfl

/-- The positive part of the convolution with its bias. -/
theorem relu_apply (b : Fin 16) (o : Fin 128) (y x : Fin 32) :
    val_main_v60 (F := Ideal) x0 x1 x2 (ix4 b o y x) = max (conv (images x0 b) (weights x1) y x o + x2 (ix1 o)) 0 := by
  have hz : val_main_call1_v0 (F := Ideal) (ix4 b o y x) = 0 := by
    rw [val_main_call1_v0_apply, val_main_call1_cst_apply]
    exact Ideal.ofBits_zero_f32
  have hb : val_main_v58 (F := Ideal) x2 (ix4 b o y x) = x2 (ix1 o) := by
    rw [val_main_v58_apply, val_main_v57_apply]
    refine congrArg x2 (funext fun a => ?_)
    match a with
    | ⟨0, _⟩ => rfl
  rw [val_main_v60_apply, val_main_v59_apply, hz, hb, conv_apply]
  rfl

/-- The one-by-one convolution with its bias. -/
theorem logit_apply (b : Fin 16) (y x : Fin 32) :
    val_main_v66 (F := Ideal) x0 x1 x2 x3 x4 (ix4 b (0 : Fin 1) y x)
      = (∑ o : Fin 128, x3 (ix4 (0 : Fin 1) o (0 : Fin 1) (0 : Fin 1))
          * max (conv (images x0 b) (weights x1) y x o + x2 (ix1 o)) 0) + x4 (ix1 (0 : Fin 1)) := by
  have hb : val_main_v65 (F := Ideal) x4 (ix4 b (0 : Fin 1) y x) = x4 (ix1 (0 : Fin 1)) := by
    rw [val_main_v65_apply, val_main_v64_apply]
    refine congrArg x4 (funext fun a => ?_)
    match a with
    | ⟨0, _⟩ => rfl
  rw [val_main_v66_apply, hb, val_main_v63_apply, val_main_v62_apply]
  refine congrArg (fun t : EReal => t + x4 (ix1 (0 : Fin 1))) (Finset.sum_congr rfl fun o _ => ?_)
  have hr : ridx_main_v62 (idx_main_v63 (ix4 b (0 : Fin 1) y x)) o = ix4 b o y x := funext fun a => by
    match a with
    | ⟨0, _⟩ => rfl
    | ⟨1, _⟩ => rfl
    | ⟨2, _⟩ => rfl
    | ⟨3, _⟩ => rfl
  have hl : idx_main_v61 (lidx_main_v62 (idx_main_v63 (ix4 b (0 : Fin 1) y x)) o) = ix4 (0 : Fin 1) o (0 : Fin 1) (0 : Fin 1) :=
    funext fun a => by
      match a with
      | ⟨0, _⟩ => rfl
      | ⟨1, _⟩ =>
        refine Fin.ext ?_
        show (0 * 128 + o.val) / 1 % 128 = o.val
        omega
      | ⟨2, _⟩ => rfl
      | ⟨3, _⟩ => rfl
  rw [val_main_v61_apply, hr, hl, relu_apply]

/-- The logistic function of it, the reference's last step but a transpose, is the saliency of the pixel. -/
theorem logistic_apply (b : Fin 16) (y x : Fin 32) :
    val_main_v72 (F := Ideal) x0 x1 x2 x3 x4 (ix4 b (0 : Fin 1) y x)
      = saliency (images x0) (weights x1) (fun o => x2 (ix1 o)) (fun o => x3 (ix4 (0 : Fin 1) o (0 : Fin 1) (0 : Fin 1)))
          (x4 (ix1 (0 : Fin 1))) b y x := by
  have h1 : val_main_v69 (F := Ideal) (ix4 b (0 : Fin 1) y x) = 1 := by
    rw [val_main_v69_apply, val_main_cst_0_apply]
    exact Ideal.ofBits_one_f32
  have h2 : val_main_v71 (F := Ideal) (ix4 b (0 : Fin 1) y x) = 1 := by
    rw [val_main_v71_apply, val_main_cst_1_apply]
    exact Ideal.ofBits_one_f32
  rw [val_main_v72_apply, val_main_v70_apply, val_main_v68_apply, val_main_v67_apply, logit_apply, h1, h2]
  rfl

/-- The reference's result at `(b, y, x)` is the saliency of pixel `(y, x)` of image `b`, -/
theorem result_at (b : Fin 16) (y x : Fin 32) :
    val_main_v73 (F := Ideal) x0 x1 x2 x3 x4 (ix4 b y x (0 : Fin 1))
      = saliency (images x0) (weights x1) (fun o => x2 (ix1 o)) (fun o => x3 (ix4 (0 : Fin 1) o (0 : Fin 1) (0 : Fin 1)))
          (x4 (ix1 (0 : Fin 1))) b y x := by
  have hi : idx_main_v73 (ix4 b y x (0 : Fin 1)) = ix4 b (0 : Fin 1) y x := funext fun a => by
    match a with
    | ⟨0, _⟩ => rfl
    | ⟨1, _⟩ => rfl
    | ⟨2, _⟩ => rfl
    | ⟨3, _⟩ => rfl
  rw [val_main_v73_apply, hi, logistic_apply]

/-- stated at an index of the array. -/
theorem result_apply (i : S16x32x32x1.Idx) :
    val_main_v73 (F := Ideal) x0 x1 x2 x3 x4 i
      = saliency (images x0) (weights x1) (fun o => x2 (ix1 o)) (fun o => x3 (ix4 (0 : Fin 1) o (0 : Fin 1) (0 : Fin 1)))
          (x4 (ix1 (0 : Fin 1))) (i 0) (i 1) (i 2) := by
  have e (b : Fin 16) (y x : Fin 32) (hb : b = i 0) (hy : y = i 1) (hx : x = i 2) : i = ix4 b y x (0 : Fin 1) := funext fun a => by
    match a with
    | ⟨0, _⟩ => exact hb.symm
    | ⟨1, _⟩ => exact hy.symm
    | ⟨2, _⟩ => exact hx.symm
    | ⟨3, _⟩ => exact Subsingleton.elim (α := Fin 1) _ _
  have key (b : Fin 16) (y x : Fin 32) (hb : b = i 0) (hy : y = i 1) (hx : x = i 2) := e b y x hb hy hx ▸ result_at x0 x1 x2 x3 x4 b y x
  exact key (i 0) (i 1) (i 2) rfl rfl rfl

end Cert.Saliency.Reference

end
-- ==== Proof.lean ====
/-
  The kernel computes the saliency maps of its reference.

  The kernel and its copy at exact arithmetic run, end with their arguments as they were and with every semaphore at zero, and
  so does the reference. At exact arithmetic the kernel's result and the reference's are the same array: both are `saliency`
  of the arguments, pixel by pixel (`Cert.Saliency.kernel_run` for the kernel, `Cert.Saliency.Reference.result_apply` for the
  reference).
-/
module

public import proofs.«01_k».proof.Defs
public import proofs.«01_k».proof.Proof.Gen.Kernel.Frame
public import proofs.«01_k».proof.Proof.Host
public import proofs.«01_k».proof.Proof.Reference
public import Idealize.ShloMosaic.Lib.Quiescent

@[expose] public section

noncomputable section

open Idealize.ShloMosaic Idealize.ShloMosaic.TcCoe Idealize.ShloMosaic.ValueIdx Idealize.SL.Sem

namespace Cert.Proof

/-- The reference runs, its arguments end unchanged and every semaphore ends at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result, from arguments equal to the kernel's, is the array of saliency maps the kernel computes. -/
theorem reference_maps (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v73 m' c = Cert.Saliency.saliencyMaps m c := by
  rw [Cert.ReferenceIdeal.Read.val_main_v73_eq, h0, h1, h2, h3, h4]
  exact funext fun i => Cert.Saliency.Reference.result_apply _ _ _ _ _ i

/-- At exact arithmetic the kernel and the reference end with the same result. -/
theorem same_result : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.Saliency.saliencyMaps m c, Cert.Saliency.kernel_run m ρ, ?_⟩
  refine (θ_run Cert.ReferenceIdeal.defs _ _).mono (fun r h c => ⟨?_, (h c).2⟩) (Cert.ReferenceIdeal.Value.run (F := Ideal) m' ρ')
  obtain ⟨h0, h1, h2, h3, h4⟩ := hargs c
  exact (h c).1.trans (reference_maps m m' c h0 h1 h2 h3 h4)

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, same_result⟩

end Cert.Proof

end
